-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "gelu_b" .f32 0xBDD2D3E8#32 (((((-2) * (6693141 / 8388608)) * (Real.log 2)⁻¹) * (12003091 / 268435456) : ℝ) : EReal)
  ∧ IdealRules.named_const.Statement Cert.KernelIdeal.κ "gelu_a" .f32 0xC0135761#32 ((((-2) * (6693141 / 8388608)) * (Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "gelu_b" .f32 0xBDD2D3E8#32 (((((-2) * (6693141 / 8388608)) * (Real.log 2)⁻¹) * (12003091 / 268435456) : ℝ) : EReal)
  ∧ IdealRules.named_const.Statement Cert.Kernel2Ideal.κ "gelu_a" .f32 0xC0135761#32 ((((-2) * (6693141 / 8388608)) * (Real.log 2)⁻¹ : ℝ) : EReal)
  ∧ IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v172) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S32x2048x1024 : Shape := ⟨3, ![32, 2048, 1024]⟩
abbrev S32x3072 : Shape := ⟨2, ![32, 3072]⟩
abbrev S1024 : Shape := ⟨1, ![1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S_ : Shape := ⟨0, ![]⟩

class Facts : Prop where
  bcast_S_S32x3072 : S_.BroadcastsInDim S32x3072 (![] : Fin 0 → Fin S32x3072.rank)
  reducesTo_S32x3072_S_d0_1 : S32x3072.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S32x2048x1024 .f32) (main_arg1 : FVec F S32x3072 .f32) (main_arg2 : FVec F S1024 .f32) (main_arg3 : FVec F S1024x4096 .f32) (main_arg4 : FVec F S4x512x512 .f32) (main_arg5 : FVec F S2048 .f32) (main_arg6 : FVec F S2048x1024 .f32) : IVec S_ 1 :=
  let main_v0 : FVec F S32x3072 .f32 := Host.absf main_arg1
  let main_cst : FVec F S_ .f32 := constant S_ .f32 0x7F800000#32
  let main_v1 : FVec F S32x3072 .f32 := broadcastInDim S32x3072 ![] bcast_S_S32x3072 main_cst
  let main_v2 : IVec S32x3072 1 := cmpf .olt main_v0 main_v1
  let main_c : IVec S_ 1 := constantI S_ 1 1#1
  let main_v3 : IVec S_ 1 := (fun x v => Host.reduce IntOp.andi x v reducesTo_S32x3072_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S32x2048x1024 : Shape := ⟨3, ![32, 2048, 1024]⟩
abbrev S32x3072 : Shape := ⟨2, ![32, 3072]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S32x1x3072 : Shape := ⟨3, ![32, 1, 3072]⟩
abbrev S1x1024 : Shape := ⟨2, ![1, 1024]⟩
abbrev S1x2048 : Shape := ⟨2, ![1, 2048]⟩
abbrev S128x8 : Shape := ⟨2, ![128, 8]⟩
abbrev S1x512x1024 : Shape := ⟨3, ![1, 512, 1024]⟩
abbrev S1x1x3072 : Shape := ⟨3, ![1, 1, 3072]⟩
abbrev S512x2048 : Shape := ⟨2, ![512, 2048]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x256 : Shape := ⟨2, ![1, 256]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 20
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024x6144, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S1024, .f32⟩
  | .hbm, ⟨10, _⟩ => ⟨S32x1x3072, .f32⟩
  | .hbm, ⟨11, _⟩ => ⟨S1x1024, .f32⟩
  | .hbm, ⟨12, _⟩ => ⟨S1024x6144, .bf16⟩
  | .hbm, ⟨13, _⟩ => ⟨S1x2048, .f32⟩
  | .hbm, ⟨14, _⟩ => ⟨S1x2048, .f32⟩
  | .hbm, ⟨15, _⟩ => ⟨S8x128x128, .bf16⟩
  | .hbm, ⟨16, _⟩ => ⟨S128x8, .f32⟩
  | .hbm, ⟨17, _⟩ => ⟨S2048x1024, .bf16⟩
  | .hbm, ⟨18, _⟩ => ⟨S1x1024, .f32⟩
  | .hbm, ⟨19, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x6144, .bf16⟩
  | .local _ .vmem, ⟨6, _⟩ => ⟨S1x2048, .f32⟩
  | .local _ .vmem, ⟨7, _⟩ => ⟨S1x2048, .f32⟩
  | .local _ .vmem, ⟨8, _⟩ => ⟨S8x128x128, .bf16⟩
  | .local _ .vmem, ⟨9, _⟩ => ⟨S128x8, .f32⟩
  | .local _ .vmem, ⟨10, _⟩ => ⟨S2048x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "gelu_a" => some ((((-2) * (6693141 / 8388608)) * (Real.log 2)⁻¹ : ℝ) : EReal)
  | "gelu_b" => some (((((-2) * (6693141 / 8388608)) * (Real.log 2)⁻¹) * (12003091 / 268435456) : ℝ) : EReal)
  | "neg_log2e" => some ((-((Real.log 2)⁻¹) : ℝ) : EReal)
  | _ => none
-- ==== ReferenceIdeal.lean ====
abbrev S32x2048x1024 : Shape := ⟨3, ![32, 2048, 1024]⟩
abbrev S32x3072 : Shape := ⟨2, ![32, 3072]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x6144 : Shape := ⟨3, ![32, 2048, 6144]⟩
abbrev S32x2048x2048 : Shape := ⟨3, ![32, 2048, 2048]⟩
abbrev S1x1x2048 : Shape := ⟨3, ![1, 1, 2048]⟩
abbrev S32x16x128x8x256 : Shape := ⟨5, ![32, 16, 128, 8, 256]⟩
abbrev S8x32x16x256x128 : Shape := ⟨5, ![8, 32, 16, 256, 128]⟩
abbrev S128x8 : Shape := ⟨2, ![128, 8]⟩
abbrev S1x1x128x8x1 : Shape := ⟨5, ![1, 1, 128, 8, 1]⟩

abbrev nBuf : Space → Nat
  | .hbm => 145
  | .vmem => 0
  | .smem => 0
  | _ => 0

abbrev hbmTy0_0 (i : Nat) : BufTy := match i % 128 with
  | 0 => ⟨S32x2048x1024, .f32⟩
  | 1 => ⟨S32x3072, .f32⟩
  | 2 => ⟨S1024, .f32⟩
  | 3 => ⟨S1024x6144, .f32⟩
  | 4 => ⟨S2048, .f32⟩
  | 5 => ⟨S2048, .f32⟩
  | 6 => ⟨S8x128x128, .f32⟩
  | 7 => ⟨S8x128, .f32⟩
  | 8 => ⟨S2048x1024, .f32⟩
  | 9 => ⟨S1024, .f32⟩
  | 10 => ⟨S32x1024, .f32⟩
  | 11 => ⟨S32x1024, .f32⟩
  | 12 => ⟨S32x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x1024, .f32⟩
  | 25 => ⟨S32x2048x1024, .f32⟩
  | 26 => ⟨S1x1x1024, .f32⟩
  | 27 => ⟨S32x2048x1024, .f32⟩
  | 28 => ⟨S32x2048x1024, .f32⟩
  | 29 => ⟨S32x1x1024, .f32⟩
  | 30 => ⟨S_, .f32⟩
  | 31 => ⟨S32x1x1024, .f32⟩
  | 32 => ⟨S32x1x1024, .f32⟩
  | 33 => ⟨S32x2048x1024, .f32⟩
  | 34 => ⟨S32x2048x1024, .f32⟩
  | 35 => ⟨S32x1x1024, .f32⟩
  | 36 => ⟨S32x2048x1024, .f32⟩
  | 37 => ⟨S32x2048x1024, .f32⟩
  | 38 => ⟨S32x2048x6144, .f32⟩
  | 39 => ⟨S32x2048x2048, .f32⟩
  | 40 => ⟨S32x2048x2048, .f32⟩
  | 41 => ⟨S32x2048x2048, .f32⟩
  | 42 => ⟨S32x2048x2048, .f32⟩
  | 43 => ⟨S32x2048x2048, .f32⟩
  | 44 => ⟨S_, .f32⟩
  | 45 => ⟨S32x2048x2048, .f32⟩
  | 46 => ⟨S32x2048x2048, .f32⟩
  | 47 => ⟨S32x2048x2048, .f32⟩
  | 48 => ⟨S_, .f32⟩
  | 49 => ⟨S32x2048x2048, .f32⟩
  | 50 => ⟨S32x2048x2048, .f32⟩
  | 51 => ⟨S32x2048x2048, .f32⟩
  | 52 => ⟨S_, .f32⟩
  | 53 => ⟨S32x2048x2048, .f32⟩
  | 54 => ⟨S32x2048x2048, .f32⟩
  | 55 => ⟨S_, .f32⟩
  | 56 => ⟨S32x2048x2048, .f32⟩
  | 57 => ⟨S32x2048x2048, .f32⟩
  | 58 => ⟨S32x2048x2048, .f32⟩
  | 59 => ⟨S32x2048x2048, .f32⟩
  | 60 => ⟨S32x2048x2048, .f32⟩
  | 61 => ⟨S_, .f32⟩
  | 62 => ⟨S32x2048x2048, .f32⟩
  | 63 => ⟨S32x2048x2048, .f32⟩
  | 64 => ⟨S32x2048x2048, .f32⟩
  | 65 => ⟨S_, .f32⟩
  | 66 => ⟨S32x2048x2048, .f32⟩
  | 67 => ⟨S32x2048x2048, .f32⟩
  | 68 => ⟨S32x2048x2048, .f32⟩
  | 69 => ⟨S_, .f32⟩
  | 70 => ⟨S32x2048x2048, .f32⟩
  | 71 => ⟨S32x2048x2048, .f32⟩
  | 72 => ⟨S_, .f32⟩
  | 73 => ⟨S32x2048x2048, .f32⟩
  | 74 => ⟨S32x2048x2048, .f32⟩
  | 75 => ⟨S32x2048x2048, .f32⟩
  | 76 => ⟨S_, .f32⟩
  | 77 => ⟨S32x2048, .f32⟩
  | 78 => ⟨S32x2048x1, .f32⟩
  | 79 => ⟨S_, .f32⟩
  | 80 => ⟨S32x2048x1, .f32⟩
  | 81 => ⟨S32x2048x1, .f32⟩
  | 82 => ⟨S32x2048x2048, .f32⟩
  | 83 => ⟨S32x2048x2048, .f32⟩
  | 84 => ⟨S32x2048x2048, .f32⟩
  | 85 => ⟨S_, .f32⟩
  | 86 => ⟨S32x2048, .f32⟩
  | 87 => ⟨S32x2048x1, .f32⟩
  | 88 => ⟨S_, .f32⟩
  | 89 => ⟨S32x2048x1, .f32⟩
  | 90 => ⟨S32x2048x1, .f32⟩
  | 91 => ⟨S32x2048x2048, .f32⟩
  | 92 => ⟨S32x2048x2048, .f32⟩
  | 93 => ⟨S_, .f32⟩
  | 94 => ⟨S32x2048x1, .f32⟩
  | 95 => ⟨S32x2048x1, .f32⟩
  | 96 => ⟨S32x2048x1, .f32⟩
  | 97 => ⟨S32x2048x2048, .f32⟩
  | 98 => ⟨S32x2048x2048, .f32⟩
  | 99 => ⟨S1x1x2048, .f32⟩
  | 100 => ⟨S32x2048x2048, .f32⟩
  | 101 => ⟨S32x2048x2048, .f32⟩
  | 102 => ⟨S1x1x2048, .f32⟩
  | 103 => ⟨S32x2048x2048, .f32⟩
  | 104 => ⟨S32x2048x2048, .f32⟩
  | 105 => ⟨S32x16x128x8x256, .f32⟩
  | 106 => ⟨S8x32x16x256x128, .f32⟩
  | 107 => ⟨S32x16x128x8x256, .f32⟩
  | 108 => ⟨S128x8, .f32⟩
  | 109 => ⟨S1x1x128x8x1, .f32⟩
  | 110 => ⟨S32x16x128x8x256, .f32⟩
  | 111 => ⟨S32x16x128x8x256, .f32⟩
  | 112 => ⟨S32x2048x2048, .f32⟩
  | 113 => ⟨S32x2048x2048, .f32⟩
  | 114 => ⟨S32x2048x2048, .f32⟩
  | 115 => ⟨S32x2048x2048, .f32⟩
  | 116 => ⟨S_, .f32⟩
  | 117 => ⟨S32x2048x2048, .f32⟩
  | 118 => ⟨S32x2048x2048, .f32⟩
  | 119 => ⟨S_, .f32⟩
  | 120 => ⟨S32x2048x2048, .f32⟩
  | 121 => ⟨S32x2048x2048, .f32⟩
  | 122 => ⟨S32x2048x2048, .f32⟩
  | 123 => ⟨S32x2048x2048, .f32⟩
  | 124 => ⟨S32x2048x1024, .f32⟩
  | 125 => ⟨S32x1x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S_, .f32⟩
  | 3 => ⟨S32x2048, .f32⟩
  | 4 => ⟨S32x2048x1, .f32⟩
  | 5 => ⟨S_, .f32⟩
  | 6 => ⟨S32x2048x1, .f32⟩
  | 7 => ⟨S32x2048x1, .f32⟩
  | 8 => ⟨S_, .f32⟩
  | 9 => ⟨S32x2048x1, .f32⟩
  | 10 => ⟨S32x2048x1, .f32⟩
  | 11 => ⟨S32x2048x1, .f32⟩
  | 12 => ⟨S32x2048x1024, .f32⟩
  | 13 => ⟨S32x2048x1024, .f32⟩
  | 14 => ⟨S1x1x1024, .f32⟩
  | 15 => ⟨S32x2048x1024, .f32⟩
  | 16 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_cst_17 : Ref sig .tc := ⟨.hbm, 133, rfl⟩
abbrev main_v97 : Ref sig .tc := ⟨.hbm, 134, rfl⟩
abbrev main_v98 : Ref sig .tc := ⟨.hbm, 135, rfl⟩
abbrev main_cst_18 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x3072 : Shape := ⟨2, ![32, 3072]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S32x1x3072 : Shape := ⟨3, ![32, 1, 3072]⟩
abbrev S1x1024 : Shape := ⟨2, ![1, 1024]⟩
abbrev S1x2048 : Shape := ⟨2, ![1, 2048]⟩
abbrev S128x8 : Shape := ⟨2, ![128, 8]⟩
abbrev S1x512x1024 : Shape := ⟨3, ![1, 512, 1024]⟩
abbrev S1x1x3072 : Shape := ⟨3, ![1, 1, 3072]⟩
abbrev S512x2048 : Shape := ⟨2, ![512, 2048]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x256 : Shape := ⟨2, ![1, 256]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 20
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024x6144, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S1024, .f32⟩
  | .hbm, ⟨10, _⟩ => ⟨S32x1x3072, .f32⟩
  | .hbm, ⟨11, _⟩ => ⟨S1x1024, .f32⟩
  | .hbm, ⟨12, _⟩ => ⟨S1024x6144, .bf16⟩
  | .hbm, ⟨13, _⟩ => ⟨S1x2048, .f32⟩
  | .hbm, ⟨14, _⟩ => ⟨S1x2048, .f32⟩
  | .hbm, ⟨15, _⟩ => ⟨S8x128x128, .bf16⟩
  | .hbm, ⟨16, _⟩ => ⟨S128x8, .f32⟩
  | .hbm, ⟨17, _⟩ => ⟨S2048x1024, .bf16⟩
  | .hbm, ⟨18, _⟩ => ⟨S1x1024, .f32⟩
  | .hbm, ⟨19, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x6144, .bf16⟩
  | .local _ .vmem, ⟨6, _⟩ => ⟨S1x2048, .f32⟩
  | .local _ .vmem, ⟨7, _⟩ => ⟨S1x2048, .f32⟩
  | .local _ .vmem, ⟨8, _⟩ => ⟨S8x128x128, .bf16⟩
  | .local _ .vmem, ⟨9, _⟩ => ⟨S128x8, .f32⟩
  | .local _ .vmem, ⟨10, _⟩ => ⟨S2048x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
variable {F : FTy → Type} [FloatOps F] [Named F]
def κ : String → Option EReal := fun
  | "gelu_a" => some ((((-2) * (6693141 / 8388608)) * (Real.log 2)⁻¹ : ℝ) : EReal)
  | "gelu_b" => some (((((-2) * (6693141 / 8388608)) * (Real.log 2)⁻¹) * (12003091 / 268435456) : ℝ) : EReal)
  | "neg_log2e" => some ((-((Real.log 2)⁻¹) : ℝ) : EReal)
  | _ => none
-- ==== Reference2Ideal.lean ====
abbrev S32x2048x1024 : Shape := ⟨3, ![32, 2048, 1024]⟩
abbrev S32x3072 : Shape := ⟨2, ![32, 3072]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x6144 : Shape := ⟨3, ![32, 2048, 6144]⟩
abbrev S32x2048x2048 : Shape := ⟨3, ![32, 2048, 2048]⟩
abbrev S1x1x2048 : Shape := ⟨3, ![1, 1, 2048]⟩
abbrev S32x16x128x8x256 : Shape := ⟨5, ![32, 16, 128, 8, 256]⟩
abbrev S8x32x16x256x128 : Shape := ⟨5, ![8, 32, 16, 256, 128]⟩
abbrev S128x8 : Shape := ⟨2, ![128, 8]⟩
abbrev S1x1x128x8x1 : Shape := ⟨5, ![1, 1, 128, 8, 1]⟩

abbrev nBuf : Space → Nat
  | .hbm => 129
  | .vmem => 0
  | .smem => 0
  | _ => 0

abbrev hbmTy0_0 (i : Nat) : BufTy := match i % 128 with
  | 0 => ⟨S32x2048x1024, .f32⟩
  | 1 => ⟨S32x3072, .f32⟩
  | 2 => ⟨S1024, .f32⟩
  | 3 => ⟨S1024x6144, .f32⟩
  | 4 => ⟨S2048, .f32⟩
  | 5 => ⟨S2048, .f32⟩
  | 6 => ⟨S8x128x128, .f32⟩
  | 7 => ⟨S8x128, .f32⟩
  | 8 => ⟨S2048x1024, .f32⟩
  | 9 => ⟨S1024, .f32⟩
  | 10 => ⟨S32x1024, .f32⟩
  | 11 => ⟨S32x1024, .f32⟩
  | 12 => ⟨S32x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S_, .f32⟩
  | 21 => ⟨S32x2048x1, .f32⟩
  | 22 => ⟨S32x2048x1, .f32⟩
  | 23 => ⟨S32x2048x1, .f32⟩
  | 24 => ⟨S32x2048x1024, .f32⟩
  | 25 => ⟨S32x2048x1024, .f32⟩
  | 26 => ⟨S1x1x1024, .f32⟩
  | 27 => ⟨S32x2048x1024, .f32⟩
  | 28 => ⟨S32x2048x1024, .f32⟩
  | 29 => ⟨S32x1x1024, .f32⟩
  | 30 => ⟨S_, .f32⟩
  | 31 => ⟨S32x1x1024, .f32⟩
  | 32 => ⟨S32x1x1024, .f32⟩
  | 33 => ⟨S32x2048x1024, .f32⟩
  | 34 => ⟨S32x2048x1024, .f32⟩
  | 35 => ⟨S32x1x1024, .f32⟩
  | 36 => ⟨S32x2048x1024, .f32⟩
  | 37 => ⟨S32x2048x1024, .f32⟩
  | 38 => ⟨S32x2048x6144, .f32⟩
  | 39 => ⟨S32x2048x2048, .f32⟩
  | 40 => ⟨S32x2048x2048, .f32⟩
  | 41 => ⟨S32x2048x2048, .f32⟩
  | 42 => ⟨S32x2048x2048, .f32⟩
  | 43 => ⟨S32x2048x2048, .f32⟩
  | 44 => ⟨S_, .f32⟩
  | 45 => ⟨S32x2048x2048, .f32⟩
  | 46 => ⟨S32x2048x2048, .f32⟩
  | 47 => ⟨S32x2048x2048, .f32⟩
  | 48 => ⟨S_, .f32⟩
  | 49 => ⟨S32x2048x2048, .f32⟩
  | 50 => ⟨S32x2048x2048, .f32⟩
  | 51 => ⟨S32x2048x2048, .f32⟩
  | 52 => ⟨S_, .f32⟩
  | 53 => ⟨S32x2048x2048, .f32⟩
  | 54 => ⟨S32x2048x2048, .f32⟩
  | 55 => ⟨S_, .f32⟩
  | 56 => ⟨S32x2048x2048, .f32⟩
  | 57 => ⟨S32x2048x2048, .f32⟩
  | 58 => ⟨S32x2048x2048, .f32⟩
  | 59 => ⟨S32x2048x2048, .f32⟩
  | 60 => ⟨S32x2048x2048, .f32⟩
  | 61 => ⟨S_, .f32⟩
  | 62 => ⟨S32x2048x2048, .f32⟩
  | 63 => ⟨S32x2048x2048, .f32⟩
  | 64 => ⟨S32x2048x2048, .f32⟩
  | 65 => ⟨S_, .f32⟩
  | 66 => ⟨S32x2048x2048, .f32⟩
  | 67 => ⟨S32x2048x2048, .f32⟩
  | 68 => ⟨S32x2048x2048, .f32⟩
  | 69 => ⟨S_, .f32⟩
  | 70 => ⟨S32x2048x2048, .f32⟩
  | 71 => ⟨S32x2048x2048, .f32⟩
  | 72 => ⟨S_, .f32⟩
  | 73 => ⟨S32x2048x2048, .f32⟩
  | 74 => ⟨S32x2048x2048, .f32⟩
  | 75 => ⟨S32x2048x2048, .f32⟩
  | 76 => ⟨S_, .f32⟩
  | 77 => ⟨S32x2048, .f32⟩
  | 78 => ⟨S32x2048x1, .f32⟩
  | 79 => ⟨S_, .f32⟩
  | 80 => ⟨S32x2048x1, .f32⟩
  | 81 => ⟨S32x2048x1, .f32⟩
  | 82 => ⟨S32x2048x2048, .f32⟩
  | 83 => ⟨S32x2048x2048, .f32⟩
  | 84 => ⟨S32x2048x2048, .f32⟩
  | 85 => ⟨S_, .f32⟩
  | 86 => ⟨S32x2048, .f32⟩
  | 87 => ⟨S32x2048x1, .f32⟩
  | 88 => ⟨S_, .f32⟩
  | 89 => ⟨S32x2048x1, .f32⟩
  | 90 => ⟨S32x2048x1, .f32⟩
  | 91 => ⟨S32x2048x2048, .f32⟩
  | 92 => ⟨S32x2048x2048, .f32⟩
  | 93 => ⟨S_, .f32⟩
  | 94 => ⟨S32x2048x1, .f32⟩
  | 95 => ⟨S32x2048x1, .f32⟩
  | 96 => ⟨S32x2048x1, .f32⟩
  | 97 => ⟨S32x2048x2048, .f32⟩
  | 98 => ⟨S32x2048x2048, .f32⟩
  | 99 => ⟨S1x1x2048, .f32⟩
  | 100 => ⟨S32x2048x2048, .f32⟩
  | 101 => ⟨S32x2048x2048, .f32⟩
  | 102 => ⟨S1x1x2048, .f32⟩
  | 103 => ⟨S32x2048x2048, .f32⟩
  | 104 => ⟨S32x2048x2048, .f32⟩
  | 105 => ⟨S32x16x128x8x256, .f32⟩
  | 106 => ⟨S8x32x16x256x128, .f32⟩
  | 107 => ⟨S32x16x128x8x256, .f32⟩
  | 108 => ⟨S128x8, .f32⟩
  | 109 => ⟨S1x1x128x8x1, .f32⟩
  | 110 => ⟨S32x16x128x8x256, .f32⟩
  | 111 => ⟨S32x16x128x8x256, .f32⟩
  | 112 => ⟨S32x2048x2048, .f32⟩
  | 113 => ⟨S32x2048x2048, .f32⟩
  | 114 => ⟨S32x2048x2048, .f32⟩
  | 115 => ⟨S32x2048x2048, .f32⟩
  | 116 => ⟨S_, .f32⟩
  | 117 => ⟨S32x2048x2048, .f32⟩
  | 118 => ⟨S32x2048x2048, .f32⟩
  | 119 => ⟨S_, .f32⟩
  | 120 => ⟨S32x2048x2048, .f32⟩
  | 121 => ⟨S32x2048x2048, .f32⟩
  | 122 => ⟨S32x2048x2048, .f32⟩
  | 123 => ⟨S32x2048x2048, .f32⟩
  | 124 => ⟨S32x2048x1024, .f32⟩
  | 125 => ⟨S32x1x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x3072 : Shape := ⟨2, ![32, 3072]⟩
abbrev S1024 : Shape := ⟨1, ![1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S32x1x3072 : Shape := ⟨3, ![32, 1, 3072]⟩
abbrev S1x1024 : Shape := ⟨2, ![1, 1024]⟩
abbrev S1x2048 : Shape := ⟨2, ![1, 2048]⟩
abbrev S1x512x1024 : Shape := ⟨3, ![1, 512, 1024]⟩
abbrev S1x8x1024 : Shape := ⟨3, ![1, 8, 1024]⟩
abbrev S1x1x3072 : Shape := ⟨3, ![1, 1, 3072]⟩
abbrev S528x2048 : Shape := ⟨2, ![528, 2048]⟩
abbrev S512x2048 : Shape := ⟨2, ![512, 2048]⟩
abbrev S512x1024 : Shape := ⟨2, ![512, 1024]⟩
abbrev S1x3072 : Shape := ⟨2, ![1, 3072]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S1024x2048 : Shape := ⟨2, ![1024, 2048]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 14
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024x4096, .f32⟩
  | .hbm, ⟨4, _⟩ => ⟨S4x512x512, .f32⟩
  | .hbm, ⟨5, _⟩ => ⟨S2048, .f32⟩
  | .hbm, ⟨6, _⟩ => ⟨S2048x1024, .f32⟩
  | .hbm, ⟨7, _⟩ => ⟨S32x1x3072, .f32⟩
  | .hbm, ⟨8, _⟩ => ⟨S1x1024, .f32⟩
  | .hbm, ⟨9, _⟩ => ⟨S1024x4096, .bf16⟩
  | .hbm, ⟨10, _⟩ => ⟨S4x512x512, .bf16⟩
  | .hbm, ⟨11, _⟩ => ⟨S1x2048, .f32⟩
  | .hbm, ⟨12, _⟩ => ⟨S2048x1024, .bf16⟩
  | .hbm, ⟨13, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x4096, .bf16⟩
  | .local _ .vmem, ⟨10, _⟩ => ⟨S4x512x512, .bf16⟩
  | .local _ .vmem, ⟨11, _⟩ => ⟨S1x2048, .f32⟩
  | .local _ .vmem, ⟨12, _⟩ => ⟨S2048x1024, .bf16⟩
  | .local _ .vmem, ⟨13, _⟩ => ⟨S1x512x1024, .f32⟩
  | .local _ .vmem, ⟨14, _⟩ => ⟨S1x512x1024, .f32⟩
  | .local _ .vmem, ⟨15, _⟩ => ⟨S528x2048, .f32⟩
  | .local _ .vmem, ⟨16, _⟩ => ⟨S512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32x2048x1024 : Shape := ⟨3, ![32, 2048, 1024]⟩
abbrev S32x3072 : Shape := ⟨2, ![32, 3072]⟩
abbrev S1024 : Shape := ⟨1, ![1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x4096 : Shape := ⟨3, ![32, 2048, 4096]⟩
abbrev S32x2048x2048 : Shape := ⟨3, ![32, 2048, 2048]⟩
abbrev S32x2048x512 : Shape := ⟨3, ![32, 2048, 512]⟩
abbrev S32x1x512 : Shape := ⟨3, ![32, 1, 512]⟩
abbrev S32x2049x512 : Shape := ⟨3, ![32, 2049, 512]⟩
abbrev S2048x1 : Shape := ⟨2, ![2048, 1]⟩
abbrev S1x2048x1 : Shape := ⟨3, ![1, 2048, 1]⟩
abbrev S32x2048x1x512 : Shape := ⟨4, ![32, 2048, 1, 512]⟩
abbrev S32x2048x4x512 : Shape := ⟨4, ![32, 2048, 4, 512]⟩
abbrev S4x512x32x2048 : Shape := ⟨4, ![4, 512, 32, 2048]⟩
abbrev S1x1x2048 : Shape := ⟨3, ![1, 1, 2048]⟩

abbrev nBuf : Space → Nat
  | .hbm => 284
  | .vmem => 0
  | .smem => 0
  | _ => 0

abbrev hbmTy0_0 (i : Nat) : BufTy := match i % 128 with
  | 0 => ⟨S32x2048x1024, .f32⟩
  | 1 => ⟨S32x3072, .f32⟩
  | 2 => ⟨S1024, .f32⟩
  | 3 => ⟨S1024x4096, .f32⟩
  | 4 => ⟨S4x512x512, .f32⟩
  | 5 => ⟨S2048, .f32⟩
  | 6 => ⟨S2048x1024, .f32⟩
  | 7 => ⟨S32x1024, .f32⟩
  | 8 => ⟨S32x1024, .f32⟩
  | 9 => ⟨S32x1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x1x1024, .f32⟩
  | 27 => ⟨S_, .f32⟩
  | 28 => ⟨S32x1x1024, .f32⟩
  | 29 => ⟨S32x1x1024, .f32⟩
  | 30 => ⟨S32x2048x1024, .f32⟩
  | 31 => ⟨S32x2048x1024, .f32⟩
  | 32 => ⟨S32x1x1024, .f32⟩
  | 33 => ⟨S32x2048x1024, .f32⟩
  | 34 => ⟨S32x2048x1024, .f32⟩
  | 35 => ⟨S32x2048x4096, .f32⟩
  | 36 => ⟨S32x2048x2048, .f32⟩
  | 37 => ⟨S32x2048x2048, .f32⟩
  | 38 => ⟨S32x2048x512, .f32⟩
  | 39 => ⟨S32x2048x512, .f32⟩
  | 40 => ⟨S32x2048x512, .f32⟩
  | 41 => ⟨S32x2048x512, .f32⟩
  | 42 => ⟨S_, .f32⟩
  | 43 => ⟨S32x1x512, .f32⟩
  | 44 => ⟨S_, .f32⟩
  | 45 => ⟨S_, .f32⟩
  | 46 => ⟨S32x2048x512, .f32⟩
  | 47 => ⟨S32x2049x512, .f32⟩
  | 48 => ⟨S2048, .i32⟩
  | 49 => ⟨S_, .i32⟩
  | 50 => ⟨S2048, .i32⟩
  | 51 => ⟨S2048, .i32⟩
  | 52 => ⟨S_, .i32⟩
  | 53 => ⟨S_, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .i32⟩
  | 72 => ⟨S2048, .f32⟩
  | 73 => ⟨S_, .i32⟩
  | 74 => ⟨S2048, .i32⟩
  | 75 => ⟨S2048, .i1⟩
  | 76 => ⟨S_, .i32⟩
  | 77 => ⟨S2048, .i32⟩
  | 78 => ⟨S2048, .i32⟩
  | 79 => ⟨S2048, .i32⟩
  | 80 => ⟨S2048x1, .i32⟩
  | 81 => ⟨S32x2048x512, .f32⟩
  | 82 => ⟨S_, .i32⟩
  | 83 => ⟨S2048, .i32⟩
  | 84 => ⟨S2048, .i1⟩
  | 85 => ⟨S_, .i32⟩
  | 86 => ⟨S2048, .i32⟩
  | 87 => ⟨S2048, .i32⟩
  | 88 => ⟨S2048, .i32⟩
  | 89 => ⟨S2048x1, .i32⟩
  | 90 => ⟨S32x2048x512, .f32⟩
  | 91 => ⟨S32x2048x512, .f32⟩
  | 92 => ⟨S1x2048x1, .f32⟩
  | 93 => ⟨S32x2048x512, .f32⟩
  | 94 => ⟨S32x2048x512, .f32⟩
  | 95 => ⟨S32x2048x512, .f32⟩
  | 96 => ⟨S_, .f32⟩
  | 97 => ⟨S32x1x512, .f32⟩
  | 98 => ⟨S_, .f32⟩
  | 99 => ⟨S_, .f32⟩
  | 100 => ⟨S32x2048x512, .f32⟩
  | 101 => ⟨S32x2049x512, .f32⟩
  | 102 => ⟨S2048, .i32⟩
  | 103 => ⟨S_, .i32⟩
  | 104 => ⟨S2048, .i32⟩
  | 105 => ⟨S2048, .i32⟩
  | 106 => ⟨S_, .i32⟩
  | 107 => ⟨S_, .i32⟩
  | 108 => ⟨S_, .i32⟩
  | 109 => ⟨S2048, .i32⟩
  | 110 => ⟨S2048, .i32⟩
  | 111 => ⟨S_, .i32⟩
  | 112 => ⟨S2048, .i32⟩
  | 113 => ⟨S2048, .i32⟩
  | 114 => ⟨S_, .i32⟩
  | 115 => ⟨S2048, .i32⟩
  | 116 => ⟨S2048, .i32⟩
  | 117 => ⟨S_, .i32⟩
  | 118 => ⟨S_, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .i32⟩
  | 126 => ⟨S2048, .f32⟩
  | 127 => ⟨S_, .i32⟩
  | _ => ⟨S32x2048x1024, .f32⟩

abbrev hbmTy0_1 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S32x2048x512, .f32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S2048, .i32⟩
  | 15 => ⟨S2048x1, .i32⟩
  | 16 => ⟨S32x2048x512, .f32⟩
  | 17 => ⟨S32x2048x512, .f32⟩
  | 18 => ⟨S1x2048x1, .f32⟩
  | 19 => ⟨S32x2048x512, .f32⟩
  | 20 => ⟨S32x2048x512, .f32⟩
  | 21 => ⟨S32x2048x512, .f32⟩
  | 22 => ⟨S_, .f32⟩
  | 23 => ⟨S32x1x512, .f32⟩
  | 24 => ⟨S_, .f32⟩
  | 25 => ⟨S_, .f32⟩
  | 26 => ⟨S32x2048x512, .f32⟩
  | 27 => ⟨S32x2049x512, .f32⟩
  | 28 => ⟨S2048, .i32⟩
  | 29 => ⟨S_, .i32⟩
  | 30 => ⟨S2048, .i32⟩
  | 31 => ⟨S2048, .i32⟩
  | 32 => ⟨S_, .i32⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S_, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .i32⟩
  | 52 => ⟨S2048, .f32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S32x2048x512, .f32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S32x2048x512, .f32⟩
  | 71 => ⟨S32x2048x512, .f32⟩
  | 72 => ⟨S1x2048x1, .f32⟩
  | 73 => ⟨S32x2048x512, .f32⟩
  | 74 => ⟨S32x2048x512, .f32⟩
  | 75 => ⟨S32x2048x512, .f32⟩
  | 76 => ⟨S_, .f32⟩
  | 77 => ⟨S32x1x512, .f32⟩
  | 78 => ⟨S_, .f32⟩
  | 79 => ⟨S_, .f32⟩
  | 80 => ⟨S32x2048x512, .f32⟩
  | 81 => ⟨S32x2049x512, .f32⟩
  | 82 => ⟨S2048, .i32⟩
  | 83 => ⟨S_, .i32⟩
  | 84 => ⟨S2048, .i32⟩
  | 85 => ⟨S2048, .i32⟩
  | 86 => ⟨S_, .i32⟩
  | 87 => ⟨S_, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S_, .i32⟩
  | 98 => ⟨S_, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S2048, .i32⟩
  | 106 => ⟨S2048, .f32⟩
  | 107 => ⟨S_, .i32⟩
  | 108 => ⟨S2048, .i32⟩
  | 109 => ⟨S2048, .i1⟩
  | 110 => ⟨S_, .i32⟩
  | 111 => ⟨S2048, .i32⟩
  | 112 => ⟨S2048, .i32⟩
  | 113 => ⟨S2048, .i32⟩
  | 114 => ⟨S2048x1, .i32⟩
  | 115 => ⟨S32x2048x512, .f32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S32x2048x512, .f32⟩
  | 125 => ⟨S32x2048x512, .f32⟩
  | 126 => ⟨S1x2048x1, .f32⟩
  | 127 => ⟨S32x2048x512, .f32⟩
  | _ => ⟨S32x2048x1024, .f32⟩

abbrev hbmTy0_2 (i : Nat) : BufTy := match i % 128 with
  | 0 => ⟨S32x2048x512, .f32⟩
  | 1 => ⟨S32x2048x512, .f32⟩
  | 2 => ⟨S32x2048x1x512, .f32⟩
  | 3 => ⟨S32x2048x1x512, .f32⟩
  | 4 => ⟨S32x2048x1x512, .f32⟩
  | 5 => ⟨S32x2048x1x512, .f32⟩
  | 6 => ⟨S32x2048x4x512, .f32⟩
  | 7 => ⟨S4x512x32x2048, .f32⟩
  | 8 => ⟨S32x2048x4x512, .f32⟩
  | 9 => ⟨S32x2048x2048, .f32⟩
  | 10 => ⟨S1x1x2048, .f32⟩
  | 11 => ⟨S32x2048x2048, .f32⟩
  | 12 => ⟨S32x2048x2048, .f32⟩
  | 13 => ⟨S32x2048x2048, .f32⟩
  | 14 => ⟨S32x2048x2048, .f32⟩
  | 15 => ⟨S_, .f32⟩
  | 16 => ⟨S32x2048x2048, .f32⟩
  | 17 => ⟨S32x2048x2048, .f32⟩
  | 18 => ⟨S_, .f32⟩
  | 19 => ⟨S32x2048x2048, .f32⟩
  | 20 => ⟨S32x2048x2048, .f32⟩
  | 21 => ⟨S32x2048x2048, .f32⟩
  | 22 => ⟨S32x2048x2048, .f32⟩
  | 23 => ⟨S32x2048x1024, .f32⟩
  | 24 => ⟨S32x1x1024, .f32⟩
  | 25 => ⟨S32x2048x1024, .f32⟩
  | 26 => ⟨S32x2048x1024, .f32⟩
  | 27 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_call0_call0_cst : Ref sig .tc := ⟨.hbm, 44, rfl⟩
abbrev main_call0_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_c_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_c_8 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_9 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_call3_call0_cst : Ref sig .tc := ⟨.hbm, 98, rfl⟩
abbrev main_call3_call0_v0 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_c_16 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v68 : Ref sig .tc := ⟨.hbm, 113, rfl⟩
abbrev main_c_17 : Ref sig .tc := ⟨.hbm, 114, rfl⟩
abbrev main_v69 : Ref sig .tc := ⟨.hbm, 115, rfl⟩
abbrev main_v70 : Ref sig .tc := ⟨.hbm, 116, rfl⟩
abbrev main_c_18 : Ref sig .tc := ⟨.hbm, 117, rfl⟩
abbrev main_c_19 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_20 : Ref sig .tc := ⟨.hbm, 127, rfl⟩
abbrev main_v74 : Ref sig .tc := ⟨.hbm, 128, rfl⟩
abbrev main_v75 : Ref sig .tc := ⟨.hbm, 129, rfl⟩
abbrev main_c_21 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_c_22 : Ref sig .tc := ⟨.hbm, 136, rfl⟩
abbrev main_v81 : Ref sig .tc := ⟨.hbm, 137, rfl⟩
abbrev main_v82 : Ref sig .tc := ⟨.hbm, 138, rfl⟩
abbrev main_c_23 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_24 : Ref sig .tc := ⟨.hbm, 150, rfl⟩
abbrev main_v93 : Ref sig .tc := ⟨.hbm, 151, rfl⟩
abbrev main_call6_call0_cst : Ref sig .tc := ⟨.hbm, 152, rfl⟩
abbrev main_call6_call0_v0 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_25 : Ref sig .tc := ⟨.hbm, 157, rfl⟩
abbrev main_v97 : Ref sig .tc := ⟨.hbm, 158, rfl⟩
abbrev main_v98 : Ref sig .tc := ⟨.hbm, 159, rfl⟩
abbrev main_c_26 : Ref sig .tc := ⟨.hbm, 160, rfl⟩
abbrev main_c_27 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_v99 : Ref sig .tc := ⟨.hbm, 167, rfl⟩
abbrev main_c_28 : Ref sig .tc := ⟨.hbm, 168, rfl⟩
abbrev main_v100 : Ref sig .tc := ⟨.hbm, 169, rfl⟩
abbrev main_v101 : Ref sig .tc := ⟨.hbm, 170, rfl⟩
abbrev main_c_29 : Ref sig .tc := ⟨.hbm, 171, rfl⟩
abbrev main_c_30 : Ref sig .tc := ⟨.hbm, 172, rfl⟩
abbrev main_call8_v0 : Ref sig .tc := ⟨.hbm, 173, rfl⟩
abbrev main_call8_v1 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_c_31 : Ref sig .tc := ⟨.hbm, 181, rfl⟩
abbrev main_v105 : Ref sig .tc := ⟨.hbm, 182, rfl⟩
abbrev main_v106 : Ref sig .tc := ⟨.hbm, 183, rfl⟩
abbrev main_c_32 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_c_33 : Ref sig .tc := ⟨.hbm, 190, rfl⟩
abbrev main_v112 : Ref sig .tc := ⟨.hbm, 191, rfl⟩
abbrev main_v113 : Ref sig .tc := ⟨.hbm, 192, rfl⟩
abbrev main_c_34 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_cst_35 : Ref sig .tc := ⟨.hbm, 204, rfl⟩
abbrev main_v124 : Ref sig .tc := ⟨.hbm, 205, rfl⟩
abbrev main_call9_call0_cst : Ref sig .tc := ⟨.hbm, 206, rfl⟩
abbrev main_call9_call0_v0 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_c_36 : Ref sig .tc := ⟨.hbm, 211, rfl⟩
abbrev main_v128 : Ref sig .tc := ⟨.hbm, 212, rfl⟩
abbrev main_v129 : Ref sig .tc := ⟨.hbm, 213, rfl⟩
abbrev main_c_37 : Ref sig .tc := ⟨.hbm, 214, rfl⟩
abbrev main_c_38 : Ref sig .tc := ⟨.hbm, 215, rfl⟩
abbrev main_call10_v0 : Ref sig .tc := ⟨.hbm, 216, rfl⟩
abbrev main_call10_v1 : Ref sig .tc := ⟨.hbm, 217, rfl⟩
abbrev main_call10_v2 : Ref sig .tc := ⟨.hbm, 218, rfl⟩
abbrev main_call10_v3 : Ref sig .tc := ⟨.hbm, 219, rfl⟩
abbrev main_call10_v4 : Ref sig .tc := ⟨.hbm, 220, rfl⟩
abbrev main_v130 : Ref sig .tc := ⟨.hbm, 221, rfl⟩
abbrev main_c_39 : Ref sig .tc := ⟨.hbm, 222, rfl⟩
abbrev main_v131 : Ref sig .tc := ⟨.hbm, 223, rfl⟩
abbrev main_v132 : Ref sig .tc := ⟨.hbm, 224, rfl⟩
abbrev main_c_40 : Ref sig .tc := ⟨.hbm, 225, rfl⟩
abbrev main_c_41 : Ref sig .tc := ⟨.hbm, 226, rfl⟩
abbrev main_call11_v0 : Ref sig .tc := ⟨.hbm, 227, rfl⟩
abbrev main_call11_v1 : Ref sig .tc := ⟨.hbm, 228, rfl⟩
abbrev main_call11_v2 : Ref sig .tc := ⟨.hbm, 229, rfl⟩
abbrev main_call11_v3 : Ref sig .tc := ⟨.hbm, 230, rfl⟩
abbrev main_call11_v4 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_c_42 : Ref sig .tc := ⟨.hbm, 235, rfl⟩
abbrev main_v136 : Ref sig .tc := ⟨.hbm, 236, rfl⟩
abbrev main_v137 : Ref sig .tc := ⟨.hbm, 237, rfl⟩
abbrev main_c_43 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_c_44 : Ref sig .tc := ⟨.hbm, 244, rfl⟩
abbrev main_v143 : Ref sig .tc := ⟨.hbm, 245, rfl⟩
abbrev main_v144 : Ref sig .tc := ⟨.hbm, 246, rfl⟩
abbrev main_c_45 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_call12_v0 : Ref sig .tc := ⟨.hbm, 269, rfl⟩
abbrev main_call12_v1 : Ref sig .tc := ⟨.hbm, 270, rfl⟩
abbrev main_call12_cst : Ref sig .tc := ⟨.hbm, 271, rfl⟩
abbrev main_call12_v2 : Ref sig .tc := ⟨.hbm, 272, rfl⟩
abbrev main_call12_v3 : Ref sig .tc := ⟨.hbm, 273, rfl⟩
abbrev main_call12_cst_0 : Ref sig .tc := ⟨.hbm, 274, rfl⟩
abbrev main_call12_v4 : Ref sig .tc := ⟨.hbm, 275, rfl⟩
abbrev main_call12_v5 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩

abbrev nD : Nat := 1
abbrev τ : Topo := Topo.v7x

variable {F : FTy → Type} [FloatOps F]
-- ==== Proof.Scalar.lean ====
module

public import Idealize.ShloMosaic.Lib.Pointwise
public import Mathlib.Analysis.SpecialFunctions.Pow.Real
public import Mathlib.Analysis.SpecialFunctions.Trigonometric.DerivHyp

@[expose] public section

noncomputable section

/-! The scalar functions of the layer over the extended reals, in the reference's spelling and in the kernel's. -/

namespace Cert.Mlp

open Idealize.ShloMosaic

/-- The float32 nearest to the square root of 2 / π, as the reference's GELU writes it. -/
abbrev cC : ℝ := 6693141 / 8388608
/-- The float32 nearest to 0.044715. -/
abbrev cK : ℝ := 12003091 / 268435456
/-- The kernel's first folded GELU constant. -/
abbrev cA : ℝ := ((-2) * (6693141 / 8388608)) * (Real.log 2)⁻¹
/-- The kernel's second folded GELU constant. -/
abbrev cB : ℝ := (((-2) * (6693141 / 8388608)) * (Real.log 2)⁻¹) * (12003091 / 268435456)
/-- The constant of the kernel's logistic function. -/
abbrev cL : ℝ := -((Real.log 2)⁻¹)

/-- The reference's GELU. -/
def gelu (u : EReal) : EReal :=
  u * (((1 / 2 : ℝ) : EReal) * (1 + Ideal.tanh ((cC : EReal) * (u + (cK : EReal) * (u * u * u)))))

/-- The reference's SiLU. -/
def silu (t : EReal) : EReal := t * Ideal.div 1 (1 + Ideal.exp (-t))

/-- One plus the kernel's exponential for GELU. -/
def geluDen (u : EReal) : EReal := 1 + Ideal.exp2 (u * ((cA : EReal) + (cB : EReal) * (u * u)))

/-- One plus the kernel's exponential for SiLU. -/
def siluDen (t : EReal) : EReal := 1 + Ideal.exp2 (t * (cL : EReal))

theorem log_two_pos : 0 < Real.log 2 := Real.log_pos (by norm_num)

theorem exp2_nonneg (x : EReal) : 0 ≤ Ideal.exp2 x := by
  induction x with
  | bot => simp
  | top => simp
  | coe r => rw [Ideal.exp2_coe]; exact_mod_cast (Real.rpow_pos_of_pos (by norm_num) r).le

theorem one_add_exp2_pos (x : EReal) : 0 < 1 + Ideal.exp2 x :=
  lt_of_lt_of_le one_pos (le_add_of_nonneg_right (exp2_nonneg x))

theorem geluDen_pos (u : EReal) : 0 < geluDen u := one_add_exp2_pos _
theorem siluDen_pos (u : EReal) : 0 < siluDen u := one_add_exp2_pos _

theorem rpow_two_log (s : ℝ) : Real.rpow 2 (s * (Real.log 2)⁻¹) = Real.exp s := by
  show (2 : ℝ) ^ (s * (Real.log 2)⁻¹) = Real.exp s
  rw [Real.rpow_def_of_pos (by norm_num)]
  congr 1
  field_simp [log_two_pos.ne']

theorem half_one_add_tanh (s : ℝ) : 1 / 2 * (1 + Real.tanh s) = (1 + Real.exp (-2 * s))⁻¹ := by
  rw [Real.tanh_eq_sinh_div_cosh, Real.sinh_eq, Real.cosh_eq]
  have h1 : Real.exp (-2 * s) = Real.exp (-s) * Real.exp (-s) := by rw [← Real.exp_add]; ring_nf
  have h2 : Real.exp s * Real.exp (-s) = 1 := by rw [← Real.exp_add]; simp
  have p1 := Real.exp_pos s
  have p2 := Real.exp_pos (-s)
  rw [h1]
  field_simp
  nlinarith [h2]

/-- The kernel's quotient is the reference's GELU. -/
theorem mul_inv_geluDen (u : EReal) : u * (geluDen u)⁻¹ = gelu u := by
  have hL := log_two_pos
  have hA : cA < 0 := by
    have : 0 < (Real.log 2)⁻¹ := inv_pos.mpr hL
    unfold cA; nlinarith
  have hB : cB < 0 := by unfold cB; unfold cA at hA; nlinarith
  induction u with
  | bot =>
    unfold geluDen gelu
    rw [EReal.bot_mul_bot, EReal.coe_mul_top_of_neg hB, EReal.add_bot, EReal.bot_mul_bot, Ideal.exp2_top,
      EReal.top_mul_bot, EReal.coe_mul_bot_of_pos (by norm_num), EReal.add_bot, EReal.coe_mul_bot_of_pos (by norm_num), Ideal.tanh_bot]
    have h0 : (1 : EReal) + -1 = 0 := by
      have := EReal.coe_add 1 (-1); norm_num at this ⊢
      exact_mod_cast this.symm
    rw [h0, mul_zero, mul_zero, EReal.add_top_of_ne_bot (by exact EReal.coe_ne_bot 1), EReal.inv_top, mul_zero]
  | top =>
    unfold geluDen gelu
    rw [EReal.top_mul_top, EReal.coe_mul_top_of_neg hB, EReal.add_bot, EReal.top_mul_bot, Ideal.exp2_bot,
      EReal.top_mul_top, EReal.coe_mul_top_of_pos (by norm_num), EReal.top_add_top, EReal.coe_mul_top_of_pos (by norm_num), Ideal.tanh_top]
    have h0 : (((1 / 2 : ℝ) : EReal)) * (1 + 1) = 1 := by
      have : (((1 / 2 : ℝ) : EReal)) * (((1:ℝ):EReal) + ((1:ℝ):EReal)) = ((1:ℝ):EReal) := by
        rw [← EReal.coe_add, ← EReal.coe_mul]; norm_num
      simpa using this
    rw [h0, add_zero]
    norm_num
  | coe r =>
    unfold geluDen gelu
    have e : (r : EReal) * ((cA : EReal) + (cB : EReal) * ((r : EReal) * r)) = ((r * (cA + cB * (r * r)) : ℝ) : EReal) := by
      push_cast; rfl
    have e' : (cC : EReal) * ((r : EReal) + (cK : EReal) * ((r : EReal) * r * r)) = ((cC * (r + cK * (r * r * r)) : ℝ) : EReal) := by
      push_cast; rfl
    rw [e, e', Ideal.exp2_coe, Ideal.tanh_coe]
    have e3 : r * (cA + cB * (r * r)) = (-2 * (cC * (r + cK * (r * r * r)))) * (Real.log 2)⁻¹ := by
      unfold cA cB cC cK; ring
    rw [e3, rpow_two_log, ← EReal.coe_one, ← EReal.coe_add, ← EReal.coe_add, ← EReal.coe_inv, ← EReal.coe_mul, ← EReal.coe_mul,
      ← EReal.coe_mul, half_one_add_tanh]

theorem siluDen_eq (t : EReal) : siluDen t = 1 + Ideal.exp (-t) := by
  have hL := log_two_pos
  have hc : cL < 0 := by unfold cL; have : 0 < (Real.log 2)⁻¹ := inv_pos.mpr hL; linarith
  unfold siluDen
  induction t with
  | bot => rw [EReal.bot_mul_coe_of_neg hc, EReal.neg_bot, Ideal.exp2_top, Ideal.exp_top]
  | top => rw [EReal.top_mul_coe_of_neg hc, EReal.neg_top, Ideal.exp2_bot, Ideal.exp_bot]
  | coe r =>
    rw [← EReal.coe_mul, ← EReal.coe_neg, Ideal.exp2_coe, Ideal.exp_coe]
    have : r * cL = (-r) * (Real.log 2)⁻¹ := by unfold cL; ring
    rw [this, rpow_two_log]

theorem mul_inv_siluDen (t : EReal) : t * (siluDen t)⁻¹ = silu t := by
  unfold silu
  rw [← siluDen_eq, Ideal.div, if_neg (siluDen_pos t).ne', one_mul]

/-- The kernel's GELU quotient. -/
theorem div_geluDen (u : EReal) : Ideal.div u (geluDen u) = gelu u := by
  rw [Ideal.div, if_neg (geluDen_pos u).ne', mul_inv_geluDen]

/-- The kernel's one quotient for GELU times SiLU. -/
theorem div_geluDen_siluDen (u t : EReal) : Ideal.div (u * t) (geluDen u * siluDen t) = gelu u * silu t := by
  rw [Ideal.div, if_neg (EReal.mul_pos (geluDen_pos u) (siluDen_pos t)).ne', EReal.mul_inv, mul_mul_mul_comm, mul_inv_geluDen,
    mul_inv_siluDen]

theorem ofBits_half : Ideal.ofBits .f32 0x3F000000#32 = ((1 / 2 : ℝ) : EReal) := by
  simp [Ideal.ofBits, Ideal.ieee, -EReal.coe_mul]; norm_num
theorem ofBits_cC : Ideal.ofBits .f32 0x3F4C422A#32 = ((cC : ℝ) : EReal) := by
  simp [Ideal.ofBits, Ideal.ieee, -EReal.coe_mul]; norm_num
theorem ofBits_cK : Ideal.ofBits .f32 0x3D372713#32 = ((cK : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_inv_2048 : Ideal.ofBits .f32 0x3A000000#32 = ((1 / 2048 : ℝ) : EReal) := by
  simp [Ideal.ofBits, Ideal.ieee, -EReal.coe_mul]; norm_num

/-- A mean over 2048 lanes by the reciprocal is the one by division. -/
theorem mul_inv_2048 (x : EReal) :
    x * Ideal.ofBits .f32 0x3A000000#32 = Ideal.div x (Ideal.ofBits .f32 0x45000000#32) := by
  rw [ofBits_2048, ofBits_inv_2048, Ideal.div_coe (by norm_num)]

end Cert.Mlp

end
-- ==== Proof.Spec.lean ====
module

public import proofs.«01_k».proof.Proof.Scalar

@[expose] public section

noncomputable section

/-! The layer on one chunk of 128 tokens, in the reference's order of operations over the extended reals. -/

namespace Cert.Mlp

open Idealize.ShloMosaic

/-- The layer's parameters for one batch entry: modulation, the first norm's gain, the fused input projection, the inner norm's gain and bias, the
    chunk weights and biases, the output projection, and the last norm's gain. -/
structure Par where
  md : Fin 3072 → EReal
  ng : Fin 1024 → EReal
  win : Fin 1024 → Fin 6144 → EReal
  vg : Fin 2048 → EReal
  vb : Fin 2048 → EReal
  ws : Fin 8 → Fin 128 → Fin 128 → EReal
  bs : Fin 8 → Fin 128 → EReal
  wout : Fin 2048 → Fin 1024 → EReal
  fg : Fin 1024 → EReal

/-- The small number under every root. -/
abbrev eps : EReal := Ideal.ofBits .f32 0x358637BD#32

/-- The reciprocal root mean square of a row of 1024 numbers. -/
def rms (x : Fin 1024 → EReal) : EReal :=
  Ideal.rsqrt (Ideal.div (∑ k, x k * x k) (Ideal.ofBits .f32 0x44800000#32) + eps)

variable (P : Par)

/-- The modulated norm of a token. -/
def hrow (x : Fin 1024 → EReal) (k : Fin 1024) : EReal :=
  x k * rms x * P.ng k * (1 + P.md ⟨1024 + k.val, by omega⟩) + P.md ⟨k.val, by omega⟩

/-- The fused projection of a token. -/
def proj (x : Fin 1024 → EReal) (j : Fin 6144) : EReal := ∑ k, hrow P x k * P.win k j

/-- The activated second third of the projection. -/
def vrow (x : Fin 1024 → EReal) (j : Fin 2048) : EReal := gelu (proj P x ⟨2048 + j.val, by omega⟩)

/-- The mean over 2048 channels. -/
def mean (v : Fin 2048 → EReal) : EReal := Ideal.div (∑ j, v j) (Ideal.ofBits .f32 0x45000000#32)

/-- The reciprocal standard deviation over 2048 channels. -/
def rstd (v : Fin 2048 → EReal) : EReal :=
  Ideal.rsqrt (mean (fun j => (v j - mean v) * (v j - mean v)) + eps)

/-- The inner layer norm. -/
def vnrow (x : Fin 1024 → EReal) (j : Fin 2048) : EReal :=
  (vrow P x j - mean (vrow P x)) * rstd (vrow P x) * P.vg j + P.vb j

/-- The chunk mixing of channel `j` at token `p`. -/
def mix (X : Fin 128 → Fin 1024 → EReal) (p : Fin 128) (j : Fin 2048) : EReal :=
  (∑ q, P.ws ⟨j.val / 256, by omega⟩ p q * vnrow P (X q) j) + P.bs ⟨j.val / 256, by omega⟩ p

/-- The two activated gates of a token. -/
def gates (x : Fin 1024 → EReal) (j : Fin 2048) : EReal :=
  gelu (proj P x ⟨j.val, by omega⟩) * silu (proj P x ⟨4096 + j.val, by omega⟩)

/-- The residual sum. -/
def res (X : Fin 128 → Fin 1024 → EReal) (p : Fin 128) (k : Fin 1024) : EReal :=
  X p k + P.md ⟨2048 + k.val, by omega⟩ * ∑ j, gates P (X p) j * mix P X p j * P.wout j k

/-- The layer's result. -/
def layer (X : Fin 128 → Fin 1024 → EReal) (p : Fin 128) (k : Fin 1024) : EReal :=
  res P X p k * rms (res P X p) * P.fg k

end Cert.Mlp

end
-- ==== Proof.Block.lean ====
module

public import proofs.«01_k».proof.Proof.Gen.KernelIdeal.Skeleton
public import proofs.«01_k».proof.Proof.Spec

@[expose] public section

set_option maxRecDepth 16384
noncomputable section

/-! The kernel's payloads read at an index, over the extended reals. -/

namespace Cert.KernelIdeal.Mlp

open Cert.KernelIdeal Cert.KernelIdeal.Gen Idealize.ShloMosaic Idealize.ShloMosaic.TcCoe
open Cert.Mlp

theorem named_a : (Named.named κ "gelu_a" 0xC0135761#32 : Ideal .f32) = (cA : EReal) :=
  IdealRules.named_const.ideal_named_scalar _ _ _ _ rfl
theorem named_b : (Named.named κ "gelu_b" 0xBDD2D3E8#32 : Ideal .f32) = (cB : EReal) :=
  IdealRules.named_const.ideal_named_scalar _ _ _ _ rfl
theorem named_l : (Named.named κ "neg_log2e" 0xBFB8AA3B#32 : Ideal .f32) = (cL : EReal) :=
  IdealRules.named_const.ideal_named_scalar _ _ _ _ rfl

/-- The normed block is the modulated norm of each of its rows. -/
theorem hb_apply (P : Par) (x : Vec Ideal S1x512x1024 .f32) (md : Vec Ideal S1x1x3072 .f32) (ng : Vec Ideal S1x1024 .f32)
    (hmd : ∀ k, md (ix3 0 0 k) = P.md k) (hng : ∀ k, ng (ix2 0 k) = P.ng k) (p : Fin 512) (k : Fin 1024) :
    k0_pay5 x md ng (ix2 p k) = hrow P (fun k => x (ix3 0 p k)) k := by
  pointwise [k0_pay5, k0_pay2, k0_pay3]
  rw [hmd, hmd, hng, ← mul_assoc]
  rfl

/-- The activated block. -/
theorem gv_apply (hb : FVec Ideal S512x1024 .bf16) (w : Vec Ideal S1024x256 .bf16) (p : Fin 512) (j : Fin 256) :
    k0_pay8 hb w (ix2 p j) = gelu (∑ k : Fin 1024, hb (ix2 p k) * w (ix2 k j)) := by
  pointwise [k0_pay8]
  rw [named_a, named_b]
  exact div_geluDen _

/-- The two activated gates of a block of channels. -/
theorem ug_apply (hb : FVec Ideal S512x1024 .bf16) (wu wt : Vec Ideal S1024x256 .bf16) (p : Fin 512) (j : Fin 256) :
    k0_pay55 hb wu wt (ix2 p j) = gelu (∑ k : Fin 1024, hb (ix2 p k) * wu (ix2 k j)) * silu (∑ k : Fin 1024, hb (ix2 p k) * wt (ix2 k j)) := by
  pointwise [k0_pay55]
  rw [named_a, named_b, named_l]
  exact div_geluDen_siluDen _ _

/-- The layer norm of a block of channels. -/
theorem vn_apply (mu rs : FVec Ideal S512x1 .f32) (v : Vec Ideal S512x256 .f32) (g b : Vec Ideal S1x256 .f32) (p : Fin 512) (j : Fin 256) :
    k0_pay49 mu rs v g b (ix2 p j) = (v (ix2 p j) - mu (ix2 p 0)) * rs (ix2 p 0) * g (ix2 0 j) + b (ix2 0 j) := by
  pointwise [k0_pay49]

/-- One block of channels of the gated mixture. -/
def yb (mu rs : FVec Ideal S512x1 .f32) (v : Vec Ideal S512x256 .f32) (g b : Vec Ideal S1x256 .f32) (bs : Vec Ideal S128x1 .f32)
    (ws : Vec Ideal S1x128x128 .bf16) (ug : Vec Ideal S512x256 .f32) : FVec Ideal S512x256 .bf16 :=
  k0_pay54 (k0_pay49 mu rs v g b) (k0_pay50 bs) (k0_pay51 mu rs v g b bs ws) (k0_pay52 mu rs v g b bs ws) (k0_pay53 mu rs v g b bs ws) ws ug

theorem yb_apply (mu rs : FVec Ideal S512x1 .f32) (v : Vec Ideal S512x256 .f32) (g b : Vec Ideal S1x256 .f32) (bs : Vec Ideal S128x1 .f32)
    (ws : Vec Ideal S1x128x128 .bf16) (ug : Vec Ideal S512x256 .f32) (p : Fin 512) (j : Fin 256) :
    yb mu rs v g b bs ws ug (ix2 p j) = ug (ix2 p j) *
      ((∑ q : Fin 128, ws (ix3 0 ⟨p.val % 128, by omega⟩ q) * k0_pay49 mu rs v g b (ix2 ⟨128 * (p.val / 128) + q.val, by omega⟩ j))
        + bs (ix2 ⟨p.val % 128, by omega⟩ 0)) := by
  unfold yb k0_pay51 k0_pay52 k0_pay53
  generalize k0_pay49 mu rs v g b = vn
  pointwise [k0_pay54, k0_pay50]
  congr 1
  have key : ∀ c r : ℕ, p.val = 128 * c + r → (hr : r < 128) → (hc : c < 4) →
      (∑ q : Fin 128, ws (ix3 0 ⟨r, hr⟩ q) * vn (ix2 ⟨128 * c + q.val, by omega⟩ j)) + bs (ix2 ⟨r, hr⟩ 0)
        = (∑ q : Fin 128, ws (ix3 0 ⟨p.val % 128, by omega⟩ q) * vn (ix2 ⟨128 * (p.val / 128) + q.val, by omega⟩ j))
          + bs (ix2 ⟨p.val % 128, by omega⟩ 0) := by
    intro c r h hr hc
    have h1 : p.val % 128 = r := by omega
    have h2 : p.val / 128 = c := by omega
    simp only [h1, h2]
  by_cases h0 : p.val < 128
  · rw [dif_pos h0]
    refine Eq.trans ?_ (key 0 p.val (by omega) h0 (by omega))
    simp only [Nat.mul_zero, Nat.zero_add]
  rw [dif_neg h0]
  by_cases h1 : p.val - 128 < 128
  · rw [dif_pos h1]
    exact key 1 (p.val - 128) (by omega) h1 (by omega)
  rw [dif_neg h1]
  by_cases h2 : p.val - 128 - 128 < 128
  · rw [dif_pos h2]
    exact key 2 (p.val - 128 - 128) (by omega) h2 (by omega)
  rw [dif_neg h2]
  exact key 3 (p.val - 128 - 128 - 128) (by omega) (by omega) (by omega)

/-- The sum of a block's two lane tiles. -/
def lt (a : FVec Ideal S512x256 .f32) : FVec Ideal S512x128 .f32 :=
  addf (extractStridedSlice S512x128 ![0, 0] a slices_S512x256_o0_0_S512x128) (extractStridedSlice S512x128 ![0, 128] a slices_S512x256_o0_128_S512x128)

/-- The row sums of eight blocks. -/
def rsum (a0 a1 a2 a3 a4 a5 a6 a7 : FVec Ideal S512x256 .f32) : FVec Ideal S512x1 .f32 :=
  shapeCast S512x1 (multiReduction .add [1] S512
    (addf (addf (addf (addf (addf (addf (addf (lt a0) (lt a1)) (lt a2)) (lt a3)) (lt a4)) (lt a5)) (lt a6)) (lt a7))
    0x00000000#32 reduces_S512x128_S512 (.inl rfl) rfl) shapeCasts_S512_S512x1

/-- The squared distance of a block from a mean. -/
def sq (mu : FVec Ideal S512x1 .f32) (a : FVec Ideal S512x256 .f32) : FVec Ideal S512x256 .f32 :=
  mulf (subf a (broadcastTo S512x256 mu broadcasts_S512x1_S512x256)) (subf a (broadcastTo S512x256 mu broadcasts_S512x1_S512x256))

/-- The row means of eight blocks. -/
def mu8 (a0 a1 a2 a3 a4 a5 a6 a7 : FVec Ideal S512x256 .f32) : FVec Ideal S512x1 .f32 :=
  mulf (rsum a0 a1 a2 a3 a4 a5 a6 a7) (broadcast S512x1 (Scalar.ofBits .f32 0x3A000000#32))

/-- The reciprocal standard deviations of eight blocks. -/
def rs8 (mu : FVec Ideal S512x1 .f32) (a0 a1 a2 a3 a4 a5 a6 a7 : FVec Ideal S512x256 .f32) : FVec Ideal S512x1 .f32 :=
  k0_pay29 (rsum (sq mu a0) (sq mu a1) (sq mu a2) (sq mu a3) (sq mu a4) (sq mu a5) (sq mu a6) (sq mu a7))

theorem sum_range_2048 (F : ℕ → EReal) : ∑ n ∈ Finset.range 2048, F n
    = ∑ x ∈ Finset.range 128, F x + ∑ x ∈ Finset.range 128, F (128 + x) + ∑ x ∈ Finset.range 128, F (256 + x) + ∑ x ∈ Finset.range 128, F (384 + x) + ∑ x ∈ Finset.range 128, F (512 + x) + ∑ x ∈ Finset.range 128, F (640 + x) + ∑ x ∈ Finset.range 128, F (768 + x) + ∑ x ∈ Finset.range 128, F (896 + x) + ∑ x ∈ Finset.range 128, F (1024 + x) + ∑ x ∈ Finset.range 128, F (1152 + x) + ∑ x ∈ Finset.range 128, F (1280 + x) + ∑ x ∈ Finset.range 128, F (1408 + x) + ∑ x ∈ Finset.range 128, F (1536 + x) + ∑ x ∈ Finset.range 128, F (1664 + x) + ∑ x ∈ Finset.range 128, F (1792 + x) + ∑ x ∈ Finset.range 128, F (1920 + x) := by
  rw [show 2048 = 1920 + 128 from rfl, Finset.sum_range_add]
  rw [Finset.sum_range_add F 1792 128]
  rw [Finset.sum_range_add F 1664 128]
  rw [Finset.sum_range_add F 1536 128]
  rw [Finset.sum_range_add F 1408 128]
  rw [Finset.sum_range_add F 1280 128]
  rw [Finset.sum_range_add F 1152 128]
  rw [Finset.sum_range_add F 1024 128]
  rw [Finset.sum_range_add F 896 128]
  rw [Finset.sum_range_add F 768 128]
  rw [Finset.sum_range_add F 640 128]
  rw [Finset.sum_range_add F 512 128]
  rw [Finset.sum_range_add F 384 128]
  rw [Finset.sum_range_add F 256 128]
  rw [Finset.sum_range_add F 128 128]

theorem rsum_apply (a0 a1 a2 a3 a4 a5 a6 a7 : FVec Ideal S512x256 .f32) (p : Fin 512) (f : Fin 2048 → EReal)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    rsum a0 a1 a2 a3 a4 a5 a6 a7 (ix2 p 0) = ∑ j, f j := by
  have hF : ∃ F : ℕ → EReal, ∀ n (h : n < 2048), f ⟨n, h⟩ = F n :=
    ⟨fun n => if h : n < 2048 then f ⟨n, h⟩ else 0, fun n h => by simp [h]⟩
  obtain ⟨F, hF⟩ := hF
  have hR : ∑ j : Fin 2048, f j = ∑ n ∈ Finset.range 2048, F n := by
    rw [← Fin.sum_univ_eq_sum_range]
    exact Finset.sum_congr rfl fun j _ => hF j.val j.isLt
  rw [hR]
  pointwise [rsum, lt]
  simp only [h0, h1, h2, h3, h4, h5, h6, h7, hF, ← Nat.add_assoc]
  rw [sum_range_2048]
  simp only [Nat.reduceAdd]
  simp only [Finset.sum_add_distrib, ← add_assoc]
  simp only [← Fin.sum_univ_eq_sum_range]

theorem mu8_apply (a0 a1 a2 a3 a4 a5 a6 a7 : FVec Ideal S512x256 .f32) (p : Fin 512) :
    mu8 a0 a1 a2 a3 a4 a5 a6 a7 (ix2 p 0) = rsum a0 a1 a2 a3 a4 a5 a6 a7 (ix2 p 0) * Ideal.ofBits .f32 0x3A000000#32 := rfl

theorem sq_apply (mu : FVec Ideal S512x1 .f32) (a : FVec Ideal S512x256 .f32) (p : Fin 512) (j : Fin 256) :
    sq mu a (ix2 p j) = (a (ix2 p j) - mu (ix2 p 0)) * (a (ix2 p j) - mu (ix2 p 0)) := by
  pointwise [sq]

theorem mu8_mean (a0 a1 a2 a3 a4 a5 a6 a7 : FVec Ideal S512x256 .f32) (p : Fin 512) (f : Fin 2048 → EReal)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    mu8 a0 a1 a2 a3 a4 a5 a6 a7 (ix2 p 0) = mean f := by
  rw [mu8_apply, rsum_apply a0 a1 a2 a3 a4 a5 a6 a7 p f h0 h1 h2 h3 h4 h5 h6 h7]
  exact mul_inv_2048 _

theorem rs8_rstd (mu : FVec Ideal S512x1 .f32) (a0 a1 a2 a3 a4 a5 a6 a7 : FVec Ideal S512x256 .f32) (p : Fin 512) (f : Fin 2048 → EReal) (hm : mu (ix2 p 0) = mean f)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    rs8 mu a0 a1 a2 a3 a4 a5 a6 a7 (ix2 p 0) = rstd f := by
  unfold rs8
  have h := rsum_apply (sq mu a0) (sq mu a1) (sq mu a2) (sq mu a3) (sq mu a4) (sq mu a5) (sq mu a6) (sq mu a7) p (fun j => (f j - mean f) * (f j - mean f))
    (fun j => by rw [sq_apply, h0, hm]) (fun j => by rw [sq_apply, h1, hm]) (fun j => by rw [sq_apply, h2, hm]) (fun j => by rw [sq_apply, h3, hm]) (fun j => by rw [sq_apply, h4, hm]) (fun j => by rw [sq_apply, h5, hm]) (fun j => by rw [sq_apply, h6, hm]) (fun j => by rw [sq_apply, h7, hm])
  generalize rsum (sq mu a0) (sq mu a1) (sq mu a2) (sq mu a3) (sq mu a4) (sq mu a5) (sq mu a6) (sq mu a7) = r at h ⊢
  pointwise [k0_pay29]
  rw [h, mul_inv_2048]
  rfl

/-- The rows of the chunk of row `p`. -/
abbrev chunk (X : Fin 512 → Fin 1024 → EReal) (p : Fin 512) (q : Fin 128) : Fin 1024 → EReal := X ⟨128 * (p.val / 128) + q.val, by omega⟩

/-- A block of channels of the gated mixture, in the layer's terms. -/
theorem y_piece (P : Par) (X : Fin 512 → Fin 1024 → EReal) (hb : FVec Ideal S512x1024 .bf16) (hhb : ∀ p k, hb (ix2 p k) = hrow P (X p) k)
    (wu wt : Vec Ideal S1024x256 .bf16) (mu rs : FVec Ideal S512x1 .f32) (v : Vec Ideal S512x256 .f32) (g b : Vec Ideal S1x256 .f32)
    (bs : Vec Ideal S128x1 .f32) (ws : Vec Ideal S1x128x128 .bf16) (G : Fin 8)
    (hwu : ∀ k (j : Fin 256), wu (ix2 k j) = P.win k ⟨256 * G.val + j.val, by omega⟩)
    (hwt : ∀ k (j : Fin 256), wt (ix2 k j) = P.win k ⟨4096 + (256 * G.val + j.val), by omega⟩)
    (hmu : ∀ p, mu (ix2 p 0) = mean (vrow P (X p))) (hrs : ∀ p, rs (ix2 p 0) = rstd (vrow P (X p)))
    (hv : ∀ p (j : Fin 256), v (ix2 p j) = vrow P (X p) ⟨256 * G.val + j.val, by omega⟩)
    (hg : ∀ j : Fin 256, g (ix2 0 j) = P.vg ⟨256 * G.val + j.val, by omega⟩)
    (hbb : ∀ j : Fin 256, b (ix2 0 j) = P.vb ⟨256 * G.val + j.val, by omega⟩)
    (hbs : ∀ p, bs (ix2 p 0) = P.bs G p) (hws : ∀ p q, ws (ix3 0 p q) = P.ws G p q) (p : Fin 512) (j : Fin 256) :
    yb mu rs v g b bs ws (k0_pay55 hb wu wt) (ix2 p j)
      = gates P (X p) ⟨256 * G.val + j.val, by omega⟩ * mix P (chunk X p) ⟨p.val % 128, by omega⟩ ⟨256 * G.val + j.val, by omega⟩ := by
  rw [yb_apply, ug_apply]
  simp only [vn_apply, hwu, hwt, hhb, hmu, hrs, hv, hg, hbb, hbs, hws]
  unfold gates mix
  have e : (⟨(256 * G.val + j.val) / 256, by omega⟩ : Fin 8) = G := Fin.ext (by show _ / 256 = _; omega)
  simp only [e]
  rfl

/-- The residual sum and the last norm of a block. -/
theorem out_block (P : Par) (x : Vec Ideal S1x512x1024 .f32) (md : Vec Ideal S1x1x3072 .f32) (yv : Vec Ideal S512x2048 .bf16)
    (wo : Vec Ideal S2048x1024 .bf16) (fg : Vec Ideal S1x1024 .f32)
    (hmd : ∀ k, md (ix3 0 0 k) = P.md k) (hwo : ∀ j k, wo (ix2 j k) = P.wout j k) (hfg : ∀ k, fg (ix2 0 k) = P.fg k)
    (hy : ∀ p j, yv (ix2 p j) = gates P (fun k => x (ix3 0 p k)) j * mix P (chunk (fun p k => x (ix3 0 p k)) p) ⟨p.val % 128, by omega⟩ j)
    (p : Fin 512) (k : Fin 1024) :
    k0_pay1 (k0_pay88 (k0_pay2 x) (k0_pay4 md) yv wo) (k0_pay89 fg) (k0_pay90 (k0_pay2 x) (k0_pay4 md) yv wo) k0_pay91 (ix3 0 p k)
      = layer P (chunk (fun p k => x (ix3 0 p k)) p) ⟨p.val % 128, by omega⟩ k := by
  have hr : ∀ k, k0_pay88 (k0_pay2 x) (k0_pay4 md) yv wo (ix2 p k) = res P (chunk (fun p k => x (ix3 0 p k)) p) ⟨p.val % 128, by omega⟩ k := by
    intro k
    pointwise [k0_pay88, k0_pay2, k0_pay4, k0_pay3]
    simp only [hmd, hwo, hy]
    have e : (⟨128 * (p.val / 128) + p.val % 128, by omega⟩ : Fin 512) = p := Fin.ext (by show _ + _ = _; omega)
    simp only [res, chunk, e]
  unfold k0_pay90
  generalize k0_pay88 (k0_pay2 x) (k0_pay4 md) yv wo = r at hr ⊢
  pointwise [k0_pay1, k0_pay89, k0_pay91]
  simp only [hr, hfg]
  rfl

end Cert.KernelIdeal.Mlp
end
-- ==== Proof.Same.lean ====
module

public import proofs.«01_k».proof.Proof.Block
public import Idealize.ShloMosaic.Lib.Pipeline.Value

@[expose] public section

set_option maxRecDepth 16384
noncomputable section

/-! The kernel's eight groups of channels run the same code: each group's payloads are the first group's. -/

namespace Cert.KernelIdeal.Mlp

open Cert.KernelIdeal Cert.KernelIdeal.Gen Idealize.ShloMosaic Idealize.ShloMosaic.TcCoe
open Cert.Mlp

variable (hb : FVec Ideal S512x1024 .bf16) (w wu wt : Vec Ideal S1024x256 .bf16)
  (mu rs : FVec Ideal S512x1 .f32) (v : Vec Ideal S512x256 .f32) (g b : Vec Ideal S1x256 .f32) (bs : Vec Ideal S128x1 .f32)
  (ws : Vec Ideal S1x128x128 .bf16) (ug : Vec Ideal S512x256 .f32)

theorem gv6 (x : Vec Ideal S1x512x1024 .f32) (md : Vec Ideal S1x1x3072 .f32) (ng : Vec Ideal S1x1024 .f32) :
    k0_pay6 x md ng w = k0_pay8 (k0_pay5 x md ng) w := rfl
theorem st7 (a : FVec Ideal S512x256 .f32) : k0_pay7 a = a := by
  exact shapeCast_self a _
theorem st12 (a : FVec Ideal S512x256 .f32) : k0_pay12 a = a := st7 a
theorem st9 : k0_pay9 hb w = k0_pay8 hb w := st7 _
theorem gv11 : k0_pay11 hb w = k0_pay8 hb w := rfl
theorem gv13 : k0_pay13 hb w = k0_pay8 hb w := rfl
theorem gv16 : k0_pay16 hb w = k0_pay8 hb w := rfl
theorem gv18 : k0_pay18 hb w = k0_pay8 hb w := rfl
theorem gv21 : k0_pay21 hb w = k0_pay8 hb w := rfl
theorem gv24 : k0_pay24 hb w = k0_pay8 hb w := rfl
theorem st14 : k0_pay14 hb w = k0_pay8 hb w := st7 _
theorem st17 : k0_pay17 hb w = k0_pay8 hb w := st7 _
theorem st19 : k0_pay19 hb w = k0_pay8 hb w := st7 _
theorem st22 : k0_pay22 hb w = k0_pay8 hb w := st7 _
theorem st25 : k0_pay25 hb w = k0_pay8 hb w := st7 _
theorem ug30 : k0_pay30 hb wu wt = k0_pay55 hb wu wt := rfl
theorem ug34 : k0_pay34 (k0_pay31 hb wu) (k0_pay32 hb wt) (k0_pay33 hb wu wt) = k0_pay55 hb wu wt := rfl
theorem ug39 : k0_pay39 (k0_pay37 hb wu wt) (k0_pay38 hb wu wt) = k0_pay55 hb wu wt := rfl
theorem ug48 : k0_pay48 (k0_pay47 hb wu wt) = k0_pay55 hb wu wt := rfl
theorem ug64 : k0_pay64 hb wu wt = k0_pay55 hb wu wt := rfl
theorem ug68 : k0_pay68 hb wu wt = k0_pay55 hb wu wt := rfl
theorem ug72 : k0_pay72 hb wu wt = k0_pay55 hb wu wt := rfl
theorem yb0 :
    k0_pay46 (k0_pay40 mu rs v g b) (k0_pay41 bs) (k0_pay42 mu rs v g b bs ws) (k0_pay43 mu rs v g b bs ws) (k0_pay44 mu rs v g b ws) (k0_pay45 bs) ws ug
      = yb mu rs v g b bs ws ug := rfl
theorem yb1 :
    k0_pay54 (k0_pay49 mu rs v g b) (k0_pay50 bs) (k0_pay51 mu rs v g b bs ws) (k0_pay52 mu rs v g b bs ws) (k0_pay53 mu rs v g b bs ws) ws ug
      = yb mu rs v g b bs ws ug := rfl
theorem yb2 :
    k0_pay63 (k0_pay57 bs) (k0_pay58 mu rs v g b bs ws) (k0_pay59 mu rs v g b bs ws) (k0_pay60 mu rs v g b bs ws) (k0_pay61 ws) (k0_pay62 mu rs v g b) (constant S128x256 .f32 0x00000000#32) ug
      = yb mu rs v g b bs ws ug := rfl
theorem yb3 :
    k0_pay67 (k0_pay66 rs (k0_pay65 mu v) g b bs ws ws ws ws) ug
      = yb mu rs v g b bs ws ug := rfl
theorem yb4 :
    k0_pay71 (k0_pay70 (k0_pay69 mu rs v) g b bs ws ws ws ws ug)
      = yb mu rs v g b bs ws ug := rfl
theorem yb5 :
    k0_pay75 (k0_pay74 (k0_pay73 mu rs v g) b bs ws ws ws ws ug)
      = yb mu rs v g b bs ws ug := rfl
theorem yb6 :
    k0_pay81 (k0_pay76 mu rs v g b) (k0_pay77 bs) (k0_pay78 mu rs v g b bs ws) (k0_pay79 mu rs v g b bs ws) (k0_pay80 mu rs v g b bs ws) ws ug
      = yb mu rs v g b bs ws ug := rfl
theorem yb7 :
    k0_pay87 (k0_pay82 mu rs v g b) (k0_pay83 bs) (k0_pay84 mu rs v g b bs ws) (k0_pay85 ws) (k0_pay86 mu rs v g b) (constant S128x256 .f32 0x00000000#32) ws ws ug
      = yb mu rs v g b bs ws ug := rfl

theorem rs_eq (a0 a2 a4 : FVec Ideal S512x256 .f32) (w1 w3 w5 w6 w7 : Vec Ideal S1024x256 .bf16) (b0 b1 b2 b3 b4 b5 b6 b7 : FVec Ideal S512x256 .f32) :
    k0_pay29 (k0_pay28 (mu8 a0 (k0_pay8 hb w1) a2 (k0_pay8 hb w3) a4 (k0_pay8 hb w5) (k0_pay8 hb w6) (k0_pay8 hb w7))
      (k0_pay27 hb (k0_pay20 hb (k0_pay15 hb (k0_pay10 hb a0 w1) a2 w3) a4 w5) (k0_pay8 hb w6) (k0_pay23 hb w6) w7 b0 b1)
      b2 b3 b4 b5 b6 b7)
      = rs8 (mu8 a0 (k0_pay8 hb w1) a2 (k0_pay8 hb w3) a4 (k0_pay8 hb w5) (k0_pay8 hb w6) (k0_pay8 hb w7)) b0 b1 b2 b3 b4 b5 b6 b7 := rfl

theorem mu_eq (a0 a2 a4 : FVec Ideal S512x256 .f32) (w1 w3 w5 w6 w7 : Vec Ideal S1024x256 .bf16) :
    k0_pay26 hb (k0_pay20 hb (k0_pay15 hb (k0_pay10 hb a0 w1) a2 w3) a4 w5) (k0_pay8 hb w6) (k0_pay23 hb w6) w7
      = mu8 a0 (k0_pay8 hb w1) a2 (k0_pay8 hb w3) a4 (k0_pay8 hb w5) (k0_pay8 hb w6) (k0_pay8 hb w7) := rfl

/-- An activated block of the projection's second third. -/
theorem v_piece (P : Par) (X : Fin 512 → Fin 1024 → EReal) (hhb : ∀ p k, hb (ix2 p k) = hrow P (X p) k)
    (W : Vec Ideal S1024x6144 .bf16) (hW : ∀ k j, W (ix2 k j) = P.win k j) (o : ℕ) (inb) (n : ℕ) (hn : n + 256 ≤ 2048) (ho : o = 2048 + n)
    (p : Fin 512) (j : Fin 256) :
    k0_pay8 hb (View.ld W (Rect.unit (s := S1024x6144) ![0, o] ![1024, 256] inb)) (ix2 p j) = vrow P (X p) ⟨n + j.val, by omega⟩ := by
  subst ho
  rw [gv_apply]
  simp only [hhb]
  pointwise
  simp only [hW, ← Nat.add_assoc]
  simp only [vrow, proj, ← Nat.add_assoc]

/-- One group's stored block, over the group's slices of the weights. -/
theorem ld_piece (P : Par) (X : Fin 512 → Fin 1024 → EReal) (hhb : ∀ p k, hb (ix2 p k) = hrow P (X p) k)
    (W : Vec Ideal S1024x6144 .bf16) (hW : ∀ k j, W (ix2 k j) = P.win k j)
    (VG VB : Vec Ideal S1x2048 .f32) (hVG : ∀ j, VG (ix2 0 j) = P.vg j) (hVB : ∀ j, VB (ix2 0 j) = P.vb j)
    (WS : Vec Ideal S8x128x128 .bf16) (hWS : ∀ g p q, WS (ix3 g p q) = P.ws g p q)
    (BS : Vec Ideal S128x8 .f32) (hBS : ∀ p g, BS (ix2 p g) = P.bs g p)
    (hmu : ∀ p, mu (ix2 p 0) = mean (vrow P (X p))) (hrs : ∀ p, rs (ix2 p 0) = rstd (vrow P (X p)))
    (G : Fin 8) (o o2 o4 : ℕ) (ho : o = 256 * G.val) (ho2 : o2 = 2048 + o) (ho4 : o4 = 4096 + o) (G' : ℕ) (hG : G' = G.val)
    (i0 i2 i4 ig ib ibs iws) (p : Fin 512) (j : Fin 2048) (z : Fin 256) (hj : j.val = o + z.val) :
    yb mu rs (k0_pay8 hb (View.ld W (Rect.unit (s := S1024x6144) ![0, o2] ![1024, 256] i2)))
      (View.ld VG (Rect.unit (s := S1x2048) ![0, o] ![1, 256] ig)) (View.ld VB (Rect.unit (s := S1x2048) ![0, o] ![1, 256] ib))
      (View.ld BS (Rect.unit (s := S128x8) ![0, G'] ![128, 1] ibs)) (View.ld WS (Rect.unit (s := S8x128x128) ![G', 0, 0] ![1, 128, 128] iws))
      (k0_pay55 hb (View.ld W (Rect.unit (s := S1024x6144) ![0, o] ![1024, 256] i0))
        (View.ld W (Rect.unit (s := S1024x6144) ![0, o4] ![1024, 256] i4))) (ix2 p z)
      = gates P (X p) j * mix P (chunk X p) ⟨p.val % 128, by omega⟩ j := by
  subst ho2 ho4 hG
  have hlt : 256 * G.val + z.val < 2048 := by omega
  obtain rfl : ⟨256 * G.val + z.val, hlt⟩ = j := Fin.ext (by show 256 * G.val + z.val = j.val; omega)
  refine y_piece P X hb hhb _ _ mu rs _ _ _ _ _ G ?_ ?_ hmu hrs ?_ ?_ ?_ ?_ ?_ p z
  · intro k j; pointwise; simp only [hW, ho]
  · intro k j; pointwise; simp only [hW, ho, Nat.add_assoc]
  · intro p j
    simp only [← ho]
    exact v_piece hb P X hhb W hW _ _ o (by omega) rfl p j
  · intro j; pointwise; simp only [hVG, ho]
  · intro j; pointwise; simp only [hVB, ho]
  · intro p; pointwise; exact hBS _ _
  · intro p q; pointwise; exact hWS _ _ _

end Cert.KernelIdeal.Mlp
end
-- ==== Proof.Entry.lean ====
module

public import proofs.«01_k».proof.Proof.Gen.KernelIdeal.Value
public import proofs.«01_k».proof.Proof.Spec
public import Idealize.ShloMosaic.Lib.Pipeline.ValueKit

@[expose] public section

set_option maxRecDepth 16384
noncomputable section

/-! What each input window's block holds, in the arguments' terms. -/

namespace Cert.KernelIdeal.Mlp

open Cert.KernelIdeal Cert.KernelIdeal.Gen Idealize.ShloMosaic Idealize.ShloMosaic.TcCoe
open Cert.Mlp

variable (m : (ℓ : Loc nD τ sig) → Buf (Elt Ideal) ℓ) (c : Dev nD)

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx10 : ∀ t : Fin cfg0.N, win0_10.index t = ![t.val / 4, t.val % 4, 0] :=
  (by decide +kernel : ∀ t : Fin grid0.N, win0_10.index t = ![t.val / 4, t.val % 4, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])

theorem t_lt (t : Fin cfg0.N) : t.val < 128 := t.isLt

theorem blk0 (t : Fin cfg0.N) (p : Fin 512) (k : Fin 1024) :
    iblk m c 0 t (ix3 0 p k) = m ((c : Thread nD τ).loc main_arg0)
      (ix3 ⟨t.val / 4, by have := t_lt t; omega⟩ ⟨512 * (t.val % 4) + p.val, by omega⟩ k) := by
  blk_point [iblk, V, idx0 t]
theorem blk1 (t : Fin cfg0.N) (k : Fin 3072) :
    iblk m c 1 t (ix3 0 0 k) = m ((c : Thread nD τ).loc main_arg1) (ix2 ⟨t.val / 4, by have := t_lt t; omega⟩ k) := by
  blk_point [iblk, V, idx1 t]
theorem blk2 (t : Fin cfg0.N) (k : Fin 1024) :
    iblk m c 2 t (ix2 0 k) = m ((c : Thread nD τ).loc main_arg2) (ix1 k) := by
  blk_point [iblk, V, idx2 t]
theorem blk3 (t : Fin cfg0.N) (k : Fin 1024) (j : Fin 6144) :
    iblk m c 3 t (ix2 k j) = m ((c : Thread nD τ).loc main_arg3) (ix2 k j) := by
  blk_point [iblk, V, idx3 t]
theorem blk4 (t : Fin cfg0.N) (k : Fin 2048) :
    iblk m c 4 t (ix2 0 k) = m ((c : Thread nD τ).loc main_arg4) (ix1 k) := by
  blk_point [iblk, V, idx4 t]
theorem blk5 (t : Fin cfg0.N) (k : Fin 2048) :
    iblk m c 5 t (ix2 0 k) = m ((c : Thread nD τ).loc main_arg5) (ix1 k) := by
  blk_point [iblk, V, idx5 t]
theorem blk6 (t : Fin cfg0.N) (g : Fin 8) (p q : Fin 128) :
    iblk m c 6 t (ix3 g p q) = m ((c : Thread nD τ).loc main_arg6) (ix3 g p q) := by
  blk_point [iblk, V, idx6 t]
theorem blk7 (t : Fin cfg0.N) (p : Fin 128) (g : Fin 8) :
    iblk m c 7 t (ix2 p g) = m ((c : Thread nD τ).loc main_arg7) (ix2 g p) := by
  blk_point [iblk, V, idx7 t]
theorem blk8 (t : Fin cfg0.N) (j : Fin 2048) (k : Fin 1024) :
    iblk m c 8 t (ix2 j k) = m ((c : Thread nD τ).loc main_arg8) (ix2 j k) := by
  blk_point [iblk, V, idx8 t]
theorem blk9 (t : Fin cfg0.N) (k : Fin 1024) :
    iblk m c 9 t (ix2 0 k) = m ((c : Thread nD τ).loc main_arg9) (ix1 k) := by
  blk_point [iblk, V, idx9 t]

/-- The layer's parameters for a batch entry, from the arguments. -/
def par (a1 : S32x3072.Idx → EReal) (a2 : S1024.Idx → EReal) (a3 : S1024x6144.Idx → EReal) (a4 a5 : S2048.Idx → EReal)
    (a6 : S8x128x128.Idx → EReal) (a7 : S8x128.Idx → EReal) (a8 : S2048x1024.Idx → EReal) (a9 : S1024.Idx → EReal) (b : Fin 32) : Par where
  md k := a1 (ix2 b k)
  ng k := a2 (ix1 k)
  win k j := a3 (ix2 k j)
  vg j := a4 (ix1 j)
  vb j := a5 (ix1 j)
  ws g p q := a6 (ix3 g p q)
  bs g p := a7 (ix2 g p)
  wout j k := a8 (ix2 j k)
  fg k := a9 (ix1 k)

/-- The whole result in the arguments' terms. -/
def whole (a0 : S32x2048x1024.Idx → EReal) (P : Fin 32 → Par) (i : S32x2048x1024.Idx) : EReal :=
  layer (P (i 0)) (fun q k => a0 (ix3 (i 0) ⟨128 * ((i 1).val / 128) + q.val, by have h : (i 1).val < 2048 := (i 1).isLt; have := q.isLt; show _ < 2048; omega⟩ k))
    ⟨(i 1).val % 128, by omega⟩ (i 2)

end Cert.KernelIdeal.Mlp
end
-- ==== Proof.Final.lean ====
module

public import proofs.«01_k».proof.Proof.Same
public import proofs.«01_k».proof.Proof.Entry
public import Idealize.ShloMosaic.Lib.Pipeline.ReadBack

@[expose] public section

set_option maxRecDepth 16384
noncomputable section

/-! The kernel's result array is the layer of its arguments. -/

namespace Cert.KernelIdeal.Mlp

open Cert.KernelIdeal Cert.KernelIdeal.Gen Idealize.ShloMosaic Idealize.ShloMosaic.TcCoe Idealize.SL.Sem
open Cert.Mlp

variable (m : (ℓ : Loc nD τ sig) → Buf (Elt Ideal) ℓ) (c : Dev nD)

/-- The parameters of a batch entry, from the launch memory. -/
abbrev parM (b : Fin 32) : Par :=
  par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) b

set_option maxHeartbeats 1000000 in
theorem final : (dats m 0 c).arrAt 10 cfg0.N = whole (m ((c : Thread nD τ).loc main_arg0)) (parM m c) := by
  refine (dats m 0 c).arrAt_eq_of_covers 10 _ (by decide +kernel) fun t hf y => ?_
  blk_simp
  rw [after0_10]
  unfold outsAt0
  frame_open
  simp (disch := decide) only [↓ View.readCov_skip, ↓ View.readCov_cons_toLoadRect, ↓ View.readCov_fill]
  frame_out
  have hx := blk0 m c t
  have hmd := blk1 m c t
  have hng := blk2 m c t
  have hw := blk3 m c t
  have hvg := blk4 m c t
  have hvb := blk5 m c t
  have hws := blk6 m c t
  have hbs := blk7 m c t
  have hwo := blk8 m c t
  have hfg := blk9 m c t
  generalize iblk m c 0 t = x at hx ⊢
  generalize iblk m c 1 t = md at hmd ⊢
  generalize iblk m c 2 t = ng at hng ⊢
  generalize iblk m c 3 t = w at hw ⊢
  generalize iblk m c 4 t = vg at hvg ⊢
  generalize iblk m c 5 t = vb at hvb ⊢
  generalize iblk m c 6 t = ws at hws ⊢
  generalize iblk m c 7 t = bs at hbs ⊢
  generalize iblk m c 8 t = wo at hwo ⊢
  generalize iblk m c 9 t = fg at hfg ⊢
  simp only [gv6, gv11, gv13, gv16, gv18, gv21, gv24, st7, st9, st12, st14, st17, st19, st22, st25, ug30, ug34, ug39, ug48, ug64, ug68, ug72,
    yb0, yb1, yb2, yb3, yb4, yb5, yb6, yb7, mu_eq, rs_eq]
  have hb32 : t.val / 4 < 32 := by have := t_lt t; omega
  obtain ⟨P, hP⟩ : ∃ P, parM m c ⟨t.val / 4, hb32⟩ = P := ⟨_, rfl⟩
  have hmd : ∀ k, md (ix3 0 0 k) = P.md k := hP ▸ hmd
  have hng : ∀ k, ng (ix2 0 k) = P.ng k := hP ▸ hng
  have hw : ∀ k j, w (ix2 k j) = P.win k j := hP ▸ hw
  have hvg : ∀ j, vg (ix2 0 j) = P.vg j := hP ▸ hvg
  have hvb : ∀ j, vb (ix2 0 j) = P.vb j := hP ▸ hvb
  have hws : ∀ g p q, ws (ix3 g p q) = P.ws g p q := hP ▸ hws
  have hbs : ∀ p g, bs (ix2 p g) = P.bs g p := hP ▸ hbs
  have hwo : ∀ j k, wo (ix2 j k) = P.wout j k := hP ▸ hwo
  have hfg : ∀ k, fg (ix2 0 k) = P.fg k := hP ▸ hfg
  have hhb := hb_apply P x md ng hmd hng
  generalize k0_pay5 x md ng = hb at hhb ⊢
  idx_vars y
  have e0 : y0 = 0 := by omega
  subst e0
  generalize hyv : (View.whole cc0_scratch2).readCov (Val := Elt Ideal) _ _ = yv
  refine (out_block P x md yv wo fg hmd hwo hfg ?hy y1 y2).trans ?fin
  case hy =>
    intro p j
    rw [← hyv, View.readCov_eq_canon']
    clear hyv
    generalize hm : mu8 (k0_pay8 hb _) _ _ _ _ _ _ _ = mu
    have hmu : ∀ p, mu (ix2 p 0) = mean (vrow P (fun k => x (ix3 0 p k))) := by
      intro p
      rw [← hm]
      exact mu8_mean _ _ _ _ _ _ _ _ p _ (fun j => (v_piece hb P _ hhb w hw _ _ 0 (by decide) rfl p j).trans (congrArg _ (Fin.ext (Nat.zero_add _)))) (fun j => v_piece hb P _ hhb w hw _ _ 256 (by decide) rfl p j) (fun j => v_piece hb P _ hhb w hw _ _ 512 (by decide) rfl p j) (fun j => v_piece hb P _ hhb w hw _ _ 768 (by decide) rfl p j) (fun j => v_piece hb P _ hhb w hw _ _ 1024 (by decide) rfl p j) (fun j => v_piece hb P _ hhb w hw _ _ 1280 (by decide) rfl p j) (fun j => v_piece hb P _ hhb w hw _ _ 1536 (by decide) rfl p j) (fun j => v_piece hb P _ hhb w hw _ _ 1792 (by decide) rfl p j)
    clear hm
    generalize hr : rs8 mu (k0_pay8 hb _) _ _ _ _ _ _ _ = rs
    have hrs : ∀ p, rs (ix2 p 0) = rstd (vrow P (fun k => x (ix3 0 p k))) := by
      intro p
      rw [← hr]
      exact rs8_rstd _ _ _ _ _ _ _ _ _ p _ (hmu p) (fun j => (v_piece hb P _ hhb w hw _ _ 0 (by decide) rfl p j).trans (congrArg _ (Fin.ext (Nat.zero_add _)))) (fun j => v_piece hb P _ hhb w hw _ _ 256 (by decide) rfl p j) (fun j => v_piece hb P _ hhb w hw _ _ 512 (by decide) rfl p j) (fun j => v_piece hb P _ hhb w hw _ _ 768 (by decide) rfl p j) (fun j => v_piece hb P _ hhb w hw _ _ 1024 (by decide) rfl p j) (fun j => v_piece hb P _ hhb w hw _ _ 1280 (by decide) rfl p j) (fun j => v_piece hb P _ hhb w hw _ _ 1536 (by decide) rfl p j) (fun j => v_piece hb P _ hhb w hw _ _ 1792 (by decide) rfl p j)
    clear hr
    canon_tiles z h
    · idx_vars z
      have e0 : 0 + 1 * p.val = z0.val := h0
      have e1 : 0 + 1 * j.val = 1792 + z1.val := h1
      obtain rfl : p = z0 := Fin.ext (by omega)
      exact ld_piece hb mu rs P _ hhb w hw vg vb hvg hvb ws hws bs hbs hmu hrs 7 1792 3840 5888 rfl rfl rfl 7 rfl _ _ _ _ _ _ _ p j z1 (by omega)
    · idx_vars z
      have e0 : 0 + 1 * p.val = z0.val := h0
      have e1 : 0 + 1 * j.val = 1536 + z1.val := h1
      obtain rfl : p = z0 := Fin.ext (by omega)
      exact ld_piece hb mu rs P _ hhb w hw vg vb hvg hvb ws hws bs hbs hmu hrs 6 1536 3584 5632 rfl rfl rfl 6 rfl _ _ _ _ _ _ _ p j z1 (by omega)
    · idx_vars z
      have e0 : 0 + 1 * p.val = z0.val := h0
      have e1 : 0 + 1 * j.val = 1280 + z1.val := h1
      obtain rfl : p = z0 := Fin.ext (by omega)
      exact ld_piece hb mu rs P _ hhb w hw vg vb hvg hvb ws hws bs hbs hmu hrs 5 1280 3328 5376 rfl rfl rfl 5 rfl _ _ _ _ _ _ _ p j z1 (by omega)
    · idx_vars z
      have e0 : 0 + 1 * p.val = z0.val := h0
      have e1 : 0 + 1 * j.val = 1024 + z1.val := h1
      obtain rfl : p = z0 := Fin.ext (by omega)
      exact ld_piece hb mu rs P _ hhb w hw vg vb hvg hvb ws hws bs hbs hmu hrs 4 1024 3072 5120 rfl rfl rfl 4 rfl _ _ _ _ _ _ _ p j z1 (by omega)
    · idx_vars z
      have e0 : 0 + 1 * p.val = z0.val := h0
      have e1 : 0 + 1 * j.val = 768 + z1.val := h1
      obtain rfl : p = z0 := Fin.ext (by omega)
      exact ld_piece hb mu rs P _ hhb w hw vg vb hvg hvb ws hws bs hbs hmu hrs 3 768 2816 4864 rfl rfl rfl 3 rfl _ _ _ _ _ _ _ p j z1 (by omega)
    · idx_vars z
      have e0 : 0 + 1 * p.val = z0.val := h0
      have e1 : 0 + 1 * j.val = 512 + z1.val := h1
      obtain rfl : p = z0 := Fin.ext (by omega)
      exact ld_piece hb mu rs P _ hhb w hw vg vb hvg hvb ws hws bs hbs hmu hrs 2 512 2560 4608 rfl rfl rfl 2 rfl _ _ _ _ _ _ _ p j z1 (by omega)
    · idx_vars z
      have e0 : 0 + 1 * p.val = z0.val := h0
      have e1 : 0 + 1 * j.val = 256 + z1.val := h1
      obtain rfl : p = z0 := Fin.ext (by omega)
      exact ld_piece hb mu rs P _ hhb w hw vg vb hvg hvb ws hws bs hbs hmu hrs 1 256 2304 4352 rfl rfl rfl 1 rfl _ _ _ _ _ _ _ p j z1 (by omega)
    · idx_vars z
      have e0 : 0 + 1 * p.val = z0.val := h0
      have e1 : 0 + 1 * j.val = z1.val := h1
      obtain rfl : p = z0 := Fin.ext (by omega)
      exact ld_piece hb mu rs P _ hhb w hw vg vb hvg hvb ws hws bs hbs hmu hrs 0 0 2048 4096 rfl rfl rfl 0 rfl _ _ _ _ _ _ _ p j z1 (by omega)
  case fin =>
    have e : (win0_10.blk t).view.emb (ix3 0 y1 y2) = ix3 ⟨t.val / 4, hb32⟩ ⟨512 * (t.val % 4) + y1.val, by omega⟩ y2 := by
      blk_ext [idx10 t]
    blk_simp
    rw [e]
    show _ = layer (parM m c ⟨t.val / 4, hb32⟩) (fun q k => m ((c : Thread nD τ).loc main_arg0) (ix3 ⟨t.val / 4, hb32⟩
      ⟨128 * ((512 * (t.val % 4) + y1.val) / 128) + q.val, by omega⟩ k)) ⟨(512 * (t.val % 4) + y1.val) % 128, by omega⟩ y2
    rw [hP]
    refine congr (congrArg₂ (layer P) (funext fun q => funext fun k => ?_) (Fin.ext ?_)) rfl
    · refine (hx _ k).trans (congrArg (fun r => m ((c : Thread nD τ).loc main_arg0) (ix3 ⟨t.val / 4, hb32⟩ r k)) (Fin.ext ?_))
      show 512 * (t.val % 4) + (128 * (y1.val / 128) + q.val) = 128 * ((512 * (t.val % 4) + y1.val) / 128) + q.val
      omega
    · show y1.val % 128 = (512 * (t.val % 4) + y1.val) % 128
      omega

end Cert.KernelIdeal.Mlp
end
-- ==== Proof.Ref.lean ====
module

public import proofs.«01_k».proof.Proof.Entry
public import proofs.«01_k».proof.Proof.Gen.ReferenceIdeal.Read

@[expose] public section

set_option maxRecDepth 16384
noncomputable section

/-! The reference's result is the layer of its arguments. -/

namespace Cert.ReferenceIdeal.Mlp

open Cert.ReferenceIdeal Cert.ReferenceIdeal.Gen Cert.ReferenceIdeal.Read Idealize.ShloMosaic Idealize.ShloMosaic.TcCoe Cert.Mlp
open Cert.KernelIdeal.Mlp (par whole)

variable (x0 : S32x2048x1024.Idx → EReal) (x1 : S32x3072.Idx → EReal) (x2 : S1024.Idx → EReal) (x3 : S1024x6144.Idx → EReal) (x4 x5 : S2048.Idx → EReal)
  (x6 : S8x128x128.Idx → EReal) (x7 : S8x128.Idx → EReal) (x8 : S2048x1024.Idx → EReal) (x9 : S1024.Idx → EReal)

theorem h23 (b : Fin 32) (s : Fin 2048) (k : Fin 1024) :
    val_main_v23 (F := Ideal) x0 x1 x2 (ix3 b s k) = hrow (par x1 x2 x3 x4 x5 x6 x7 x8 x9 b) (fun k => x0 (ix3 b s k)) k := by
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2]
  rfl

theorem h24 (b : Fin 32) (s : Fin 2048) (j : Fin 6144) :
    val_main_v24 (F := Ideal) x0 x1 x2 x3 (ix3 b s j) = proj (par x1 x2 x3 x4 x5 x6 x7 x8 x9 b) (fun k => x0 (ix3 b s k)) j := by
  have h := h23 x0 x1 x2 x3 x4 x5 x6 x7 x8 x9 b s
  unfold val_main_v24
  generalize val_main_v23 (F := Ideal) x0 x1 x2 = hb at h ⊢
  pointwise
  simp only [h]
  rfl

theorem h40 (b : Fin 32) (s : Fin 2048) (j : Fin 2048) :
    val_main_v40 (F := Ideal) x0 x1 x2 x3 (ix3 b s j) = gelu (proj (par x1 x2 x3 x4 x5 x6 x7 x8 x9 b) (fun k => x0 (ix3 b s k)) ⟨j.val, by omega⟩) := by
  have h := h24 x0 x1 x2 x3 x4 x5 x6 x7 x8 x9 b s
  unfold val_main_v40 val_main_v39 val_main_v38 val_main_v37 val_main_v36 val_main_v35 val_main_v34 val_main_v33 val_main_v32 val_main_v31 val_main_v30 val_main_v29 val_main_v28
  unfold val_main_v25
  generalize val_main_v24 (F := Ideal) x0 x1 x2 x3 = hb at h ⊢
  pointwise [val_main_cst_3, val_main_cst_4, val_main_cst_5, val_main_cst_6]
  simp only [h, ofBits_half, ofBits_cC, ofBits_cK]
  rfl

theorem h53 (b : Fin 32) (s : Fin 2048) (j : Fin 2048) :
    val_main_v53 (F := Ideal) x0 x1 x2 x3 (ix3 b s j) = vrow (par x1 x2 x3 x4 x5 x6 x7 x8 x9 b) (fun k => x0 (ix3 b s k)) j := by
  have h := h24 x0 x1 x2 x3 x4 x5 x6 x7 x8 x9 b s
  unfold val_main_v53 val_main_v52 val_main_v51 val_main_v50 val_main_v49 val_main_v48 val_main_v47 val_main_v46 val_main_v45 val_main_v44 val_main_v43 val_main_v42 val_main_v41
  unfold val_main_v26
  generalize val_main_v24 (F := Ideal) x0 x1 x2 x3 = hb at h ⊢
  pointwise [val_main_cst_7, val_main_cst_8, val_main_cst_9, val_main_cst_10]
  simp only [h, ofBits_half, ofBits_cC, ofBits_cK]
  rfl

theorem h57 (b : Fin 32) (s : Fin 2048) :
    val_main_v57 (F := Ideal) x0 x1 x2 x3 (ix3 b s 0) = mean (vrow (par x1 x2 x3 x4 x5 x6 x7 x8 x9 b) (fun k => x0 (ix3 b s k))) := by
  have h := h53 x0 x1 x2 x3 x4 x5 x6 x7 x8 x9 b s
  unfold val_main_v57 val_main_v56 val_main_v55 val_main_v54
  generalize val_main_v53 (F := Ideal) x0 x1 x2 x3 = hb at h ⊢
  pointwise [val_main_cst_11, val_main_cst_12]
  simp only [h]
  rfl

theorem h77 (b : Fin 32) (s : Fin 2048) (j : Fin 2048) :
    val_main_v77 (F := Ideal) x0 x1 x2 x3 x4 x5 (ix3 b s j) = vnrow (par x1 x2 x3 x4 x5 x6 x7 x8 x9 b) (fun k => x0 (ix3 b s k)) j := by
  have h := h53 x0 x1 x2 x3 x4 x5 x6 x7 x8 x9 b s
  have h' := h57 x0 x1 x2 x3 x4 x5 x6 x7 x8 x9 b s
  unfold val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58
  generalize val_main_v57 (F := Ideal) x0 x1 x2 x3 = mu at h' ⊢
  generalize val_main_v53 (F := Ideal) x0 x1 x2 x3 = hb at h ⊢
  pointwise [val_main_cst_13, val_main_cst_14, val_main_cst_15]
  simp only [h, h']
  rfl

theorem h85 (b : Fin 32) (s : Fin 2048) (j : Fin 2048) :
    val_main_v85 (F := Ideal) x0 x1 x2 x3 x4 x5 x6 x7 (ix3 b s j)
      = mix (par x1 x2 x3 x4 x5 x6 x7 x8 x9 b) (fun q k => x0 (ix3 b ⟨128 * (s.val / 128) + q.val, by omega⟩ k)) ⟨s.val % 128, by omega⟩ j := by
  have h := fun s => h77 x0 x1 x2 x3 x4 x5 x6 x7 x8 x9 b s
  unfold val_main_v85 val_main_v84 val_main_v83 val_main_v82 val_main_v81 val_main_v80 val_main_v79 val_main_v78
  generalize val_main_v77 (F := Ideal) x0 x1 x2 x3 x4 x5 = hb at h ⊢
  pointwise
  simp only [h, mul_comm (s.val / 128) 128]
  unfold mix
  congr 1
  exact Finset.sum_congr rfl fun q _ => mul_comm _ _

theorem h87 (b : Fin 32) (s : Fin 2048) (j : Fin 2048) :
    val_main_v87 (F := Ideal) x0 x1 x2 x3 (ix3 b s j) = silu (proj (par x1 x2 x3 x4 x5 x6 x7 x8 x9 b) (fun k => x0 (ix3 b s k)) ⟨4096 + j.val, by omega⟩) := by
  have h := h24 x0 x1 x2 x3 x4 x5 x6 x7 x8 x9 b s
  unfold val_main_v87 val_main_call0_v5 val_main_call0_v4 val_main_call0_v3 val_main_call0_v2 val_main_call0_v1 val_main_call0_v0
  unfold val_main_v27
  generalize val_main_v24 (F := Ideal) x0 x1 x2 x3 = hb at h ⊢
  pointwise [val_main_call0_cst, val_main_call0_cst_0]
  simp only [h]
  rfl

theorem h93 (b : Fin 32) (s : Fin 2048) (k : Fin 1024) :
    val_main_v93 (F := Ideal) x0 x1 x2 x3 x4 x5 x6 x7 x8 (ix3 b s k)
      = res (par x1 x2 x3 x4 x5 x6 x7 x8 x9 b) (fun q k => x0 (ix3 b ⟨128 * (s.val / 128) + q.val, by omega⟩ k)) ⟨s.val % 128, by omega⟩ k := by
  have h40 := h40 x0 x1 x2 x3 x4 x5 x6 x7 x8 x9 b s
  have h85 := h85 x0 x1 x2 x3 x4 x5 x6 x7 x8 x9 b s
  have h87 := h87 x0 x1 x2 x3 x4 x5 x6 x7 x8 x9 b s
  unfold val_main_v93 val_main_v92 val_main_v91 val_main_v90 val_main_v89 val_main_v88 val_main_v86 val_main_v2
  generalize val_main_v40 (F := Ideal) x0 x1 x2 x3 = a at h40 ⊢
  generalize val_main_v85 (F := Ideal) x0 x1 x2 x3 x4 x5 x6 x7 = m at h85 ⊢
  generalize val_main_v87 (F := Ideal) x0 x1 x2 x3 = g at h87 ⊢
  pointwise
  simp only [h40, h85, h87]
  unfold res gates
  have e : 128 * (s.val / 128) + s.val % 128 = s.val := by omega
  simp only [e, mul_right_comm (gelu _) (mix _ _ _ _) (silu _)]
  rfl

/-- The reference's result. -/
theorem h106 : val_main_v106 (F := Ideal) x0 x1 x2 x3 x4 x5 x6 x7 x8 x9 = whole x0 (par x1 x2 x3 x4 x5 x6 x7 x8 x9) := by
  funext y
  idx_vars y
  have h := h93 x0 x1 x2 x3 x4 x5 x6 x7 x8 x9 y0 y1
  unfold val_main_v106 val_main_v105 val_main_v104 val_main_v103 val_main_v102 val_main_v101 val_main_v100 val_main_v99 val_main_v98 val_main_v97 val_main_v96 val_main_v95 val_main_v94
  generalize val_main_v93 (F := Ideal) x0 x1 x2 x3 x4 x5 x6 x7 x8 = r at h ⊢
  pointwise [val_main_cst_16, val_main_cst_17, val_main_cst_18]
  simp only [h]
  rfl

end Cert.ReferenceIdeal.Mlp
end
-- ==== Proof.Block2.lean ====
module

public import proofs.«01_k».proof.Proof.Gen.Kernel2Ideal.Skeleton
public import proofs.«01_k».proof.Proof.Spec

@[expose] public section

set_option maxRecDepth 16384
noncomputable section

/-! The first gMLP layer's payloads read at an index, over the extended reals. -/

namespace Cert.Kernel2Ideal.Mlp

open Cert.Kernel2Ideal Cert.Kernel2Ideal.Gen Idealize.ShloMosaic Idealize.ShloMosaic.TcCoe
open Cert.Mlp

theorem named_a : (Named.named κ "gelu_a" 0xC0135761#32 : Ideal .f32) = (cA : EReal) :=
  IdealRules.named_const.ideal_named_scalar _ _ _ _ rfl
theorem named_b : (Named.named κ "gelu_b" 0xBDD2D3E8#32 : Ideal .f32) = (cB : EReal) :=
  IdealRules.named_const.ideal_named_scalar _ _ _ _ rfl
theorem named_l : (Named.named κ "neg_log2e" 0xBFB8AA3B#32 : Ideal .f32) = (cL : EReal) :=
  IdealRules.named_const.ideal_named_scalar _ _ _ _ rfl

/-- The normed block is the modulated norm of each of its rows. -/
theorem hb_apply (P : Par) (x : Vec Ideal S1x512x1024 .f32) (md : Vec Ideal S1x1x3072 .f32) (ng : Vec Ideal S1x1024 .f32)
    (hmd : ∀ k, md (ix3 0 0 k) = P.md k) (hng : ∀ k, ng (ix2 0 k) = P.ng k) (p : Fin 512) (k : Fin 1024) :
    k0_pay5 x md ng (ix2 p k) = hrow P (fun k => x (ix3 0 p k)) k := by
  pointwise [k0_pay5, k0_pay2, k0_pay3]
  rw [hmd, hmd, hng, ← mul_assoc]
  rfl

/-- The activated block. -/
theorem gv_apply (hb : FVec Ideal S512x1024 .bf16) (w : Vec Ideal S1024x256 .bf16) (p : Fin 512) (j : Fin 256) :
    k0_pay8 hb w (ix2 p j) = gelu (∑ k : Fin 1024, hb (ix2 p k) * w (ix2 k j)) := by
  pointwise [k0_pay8]
  rw [named_a, named_b]
  exact div_geluDen _

/-- The two activated gates of a block of channels. -/
theorem ug_apply (hb : FVec Ideal S512x1024 .bf16) (wu wt : Vec Ideal S1024x256 .bf16) (p : Fin 512) (j : Fin 256) :
    k0_pay55 hb wu wt (ix2 p j) = gelu (∑ k : Fin 1024, hb (ix2 p k) * wu (ix2 k j)) * silu (∑ k : Fin 1024, hb (ix2 p k) * wt (ix2 k j)) := by
  pointwise [k0_pay55]
  rw [named_a, named_b, named_l]
  exact div_geluDen_siluDen _ _

/-- The layer norm of a block of channels. -/
theorem vn_apply (mu rs : FVec Ideal S512x1 .f32) (v : Vec Ideal S512x256 .f32) (g b : Vec Ideal S1x256 .f32) (p : Fin 512) (j : Fin 256) :
    k0_pay49 mu rs v g b (ix2 p j) = (v (ix2 p j) - mu (ix2 p 0)) * rs (ix2 p 0) * g (ix2 0 j) + b (ix2 0 j) := by
  pointwise [k0_pay49]

/-- One block of channels of the gated mixture. -/
def yb (mu rs : FVec Ideal S512x1 .f32) (v : Vec Ideal S512x256 .f32) (g b : Vec Ideal S1x256 .f32) (bs : Vec Ideal S128x1 .f32)
    (ws : Vec Ideal S1x128x128 .bf16) (ug : Vec Ideal S512x256 .f32) : FVec Ideal S512x256 .bf16 :=
  k0_pay54 (k0_pay49 mu rs v g b) (k0_pay50 bs) (k0_pay51 mu rs v g b bs ws) (k0_pay52 mu rs v g b bs ws) (k0_pay53 mu rs v g b bs ws) ws ug

theorem yb_apply (mu rs : FVec Ideal S512x1 .f32) (v : Vec Ideal S512x256 .f32) (g b : Vec Ideal S1x256 .f32) (bs : Vec Ideal S128x1 .f32)
    (ws : Vec Ideal S1x128x128 .bf16) (ug : Vec Ideal S512x256 .f32) (p : Fin 512) (j : Fin 256) :
    yb mu rs v g b bs ws ug (ix2 p j) = ug (ix2 p j) *
      ((∑ q : Fin 128, ws (ix3 0 ⟨p.val % 128, by omega⟩ q) * k0_pay49 mu rs v g b (ix2 ⟨128 * (p.val / 128) + q.val, by omega⟩ j))
        + bs (ix2 ⟨p.val % 128, by omega⟩ 0)) := by
  unfold yb k0_pay51 k0_pay52 k0_pay53
  generalize k0_pay49 mu rs v g b = vn
  pointwise [k0_pay54, k0_pay50]
  congr 1
  have key : ∀ c r : ℕ, p.val = 128 * c + r → (hr : r < 128) → (hc : c < 4) →
      (∑ q : Fin 128, ws (ix3 0 ⟨r, hr⟩ q) * vn (ix2 ⟨128 * c + q.val, by omega⟩ j)) + bs (ix2 ⟨r, hr⟩ 0)
        = (∑ q : Fin 128, ws (ix3 0 ⟨p.val % 128, by omega⟩ q) * vn (ix2 ⟨128 * (p.val / 128) + q.val, by omega⟩ j))
          + bs (ix2 ⟨p.val % 128, by omega⟩ 0) := by
    intro c r h hr hc
    have h1 : p.val % 128 = r := by omega
    have h2 : p.val / 128 = c := by omega
    simp only [h1, h2]
  by_cases h0 : p.val < 128
  · rw [dif_pos h0]
    refine Eq.trans ?_ (key 0 p.val (by omega) h0 (by omega))
    simp only [Nat.mul_zero, Nat.zero_add]
  rw [dif_neg h0]
  by_cases h1 : p.val - 128 < 128
  · rw [dif_pos h1]
    exact key 1 (p.val - 128) (by omega) h1 (by omega)
  rw [dif_neg h1]
  by_cases h2 : p.val - 128 - 128 < 128
  · rw [dif_pos h2]
    exact key 2 (p.val - 128 - 128) (by omega) h2 (by omega)
  rw [dif_neg h2]
  exact key 3 (p.val - 128 - 128 - 128) (by omega) (by omega) (by omega)

/-- The sum of a block's two lane tiles. -/
def lt (a : FVec Ideal S512x256 .f32) : FVec Ideal S512x128 .f32 :=
  addf (extractStridedSlice S512x128 ![0, 0] a slices_S512x256_o0_0_S512x128) (extractStridedSlice S512x128 ![0, 128] a slices_S512x256_o0_128_S512x128)

/-- The row sums of eight blocks. -/
def rsum (a0 a1 a2 a3 a4 a5 a6 a7 : FVec Ideal S512x256 .f32) : FVec Ideal S512x1 .f32 :=
  shapeCast S512x1 (multiReduction .add [1] S512
    (addf (addf (addf (addf (addf (addf (addf (lt a0) (lt a1)) (lt a2)) (lt a3)) (lt a4)) (lt a5)) (lt a6)) (lt a7))
    0x00000000#32 reduces_S512x128_S512 (.inl rfl) rfl) shapeCasts_S512_S512x1

/-- The squared distance of a block from a mean. -/
def sq (mu : FVec Ideal S512x1 .f32) (a : FVec Ideal S512x256 .f32) : FVec Ideal S512x256 .f32 :=
  mulf (subf a (broadcastTo S512x256 mu broadcasts_S512x1_S512x256)) (subf a (broadcastTo S512x256 mu broadcasts_S512x1_S512x256))

/-- The row means of eight blocks. -/
def mu8 (a0 a1 a2 a3 a4 a5 a6 a7 : FVec Ideal S512x256 .f32) : FVec Ideal S512x1 .f32 :=
  mulf (rsum a0 a1 a2 a3 a4 a5 a6 a7) (broadcast S512x1 (Scalar.ofBits .f32 0x3A000000#32))

/-- The reciprocal standard deviations of eight blocks. -/
def rs8 (mu : FVec Ideal S512x1 .f32) (a0 a1 a2 a3 a4 a5 a6 a7 : FVec Ideal S512x256 .f32) : FVec Ideal S512x1 .f32 :=
  k0_pay29 (rsum (sq mu a0) (sq mu a1) (sq mu a2) (sq mu a3) (sq mu a4) (sq mu a5) (sq mu a6) (sq mu a7))

theorem sum_range_2048 (F : ℕ → EReal) : ∑ n ∈ Finset.range 2048, F n
    = ∑ x ∈ Finset.range 128, F x + ∑ x ∈ Finset.range 128, F (128 + x) + ∑ x ∈ Finset.range 128, F (256 + x) + ∑ x ∈ Finset.range 128, F (384 + x) + ∑ x ∈ Finset.range 128, F (512 + x) + ∑ x ∈ Finset.range 128, F (640 + x) + ∑ x ∈ Finset.range 128, F (768 + x) + ∑ x ∈ Finset.range 128, F (896 + x) + ∑ x ∈ Finset.range 128, F (1024 + x) + ∑ x ∈ Finset.range 128, F (1152 + x) + ∑ x ∈ Finset.range 128, F (1280 + x) + ∑ x ∈ Finset.range 128, F (1408 + x) + ∑ x ∈ Finset.range 128, F (1536 + x) + ∑ x ∈ Finset.range 128, F (1664 + x) + ∑ x ∈ Finset.range 128, F (1792 + x) + ∑ x ∈ Finset.range 128, F (1920 + x) := by
  rw [show 2048 = 1920 + 128 from rfl, Finset.sum_range_add]
  rw [Finset.sum_range_add F 1792 128]
  rw [Finset.sum_range_add F 1664 128]
  rw [Finset.sum_range_add F 1536 128]
  rw [Finset.sum_range_add F 1408 128]
  rw [Finset.sum_range_add F 1280 128]
  rw [Finset.sum_range_add F 1152 128]
  rw [Finset.sum_range_add F 1024 128]
  rw [Finset.sum_range_add F 896 128]
  rw [Finset.sum_range_add F 768 128]
  rw [Finset.sum_range_add F 640 128]
  rw [Finset.sum_range_add F 512 128]
  rw [Finset.sum_range_add F 384 128]
  rw [Finset.sum_range_add F 256 128]
  rw [Finset.sum_range_add F 128 128]

theorem rsum_apply (a0 a1 a2 a3 a4 a5 a6 a7 : FVec Ideal S512x256 .f32) (p : Fin 512) (f : Fin 2048 → EReal)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    rsum a0 a1 a2 a3 a4 a5 a6 a7 (ix2 p 0) = ∑ j, f j := by
  have hF : ∃ F : ℕ → EReal, ∀ n (h : n < 2048), f ⟨n, h⟩ = F n :=
    ⟨fun n => if h : n < 2048 then f ⟨n, h⟩ else 0, fun n h => by simp [h]⟩
  obtain ⟨F, hF⟩ := hF
  have hR : ∑ j : Fin 2048, f j = ∑ n ∈ Finset.range 2048, F n := by
    rw [← Fin.sum_univ_eq_sum_range]
    exact Finset.sum_congr rfl fun j _ => hF j.val j.isLt
  rw [hR]
  pointwise [rsum, lt]
  simp only [h0, h1, h2, h3, h4, h5, h6, h7, hF, ← Nat.add_assoc]
  rw [sum_range_2048]
  simp only [Nat.reduceAdd]
  simp only [Finset.sum_add_distrib, ← add_assoc]
  simp only [← Fin.sum_univ_eq_sum_range]

theorem mu8_apply (a0 a1 a2 a3 a4 a5 a6 a7 : FVec Ideal S512x256 .f32) (p : Fin 512) :
    mu8 a0 a1 a2 a3 a4 a5 a6 a7 (ix2 p 0) = rsum a0 a1 a2 a3 a4 a5 a6 a7 (ix2 p 0) * Ideal.ofBits .f32 0x3A000000#32 := rfl

theorem sq_apply (mu : FVec Ideal S512x1 .f32) (a : FVec Ideal S512x256 .f32) (p : Fin 512) (j : Fin 256) :
    sq mu a (ix2 p j) = (a (ix2 p j) - mu (ix2 p 0)) * (a (ix2 p j) - mu (ix2 p 0)) := by
  pointwise [sq]

theorem mu8_mean (a0 a1 a2 a3 a4 a5 a6 a7 : FVec Ideal S512x256 .f32) (p : Fin 512) (f : Fin 2048 → EReal)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    mu8 a0 a1 a2 a3 a4 a5 a6 a7 (ix2 p 0) = mean f := by
  rw [mu8_apply, rsum_apply a0 a1 a2 a3 a4 a5 a6 a7 p f h0 h1 h2 h3 h4 h5 h6 h7]
  exact mul_inv_2048 _

theorem rs8_rstd (mu : FVec Ideal S512x1 .f32) (a0 a1 a2 a3 a4 a5 a6 a7 : FVec Ideal S512x256 .f32) (p : Fin 512) (f : Fin 2048 → EReal) (hm : mu (ix2 p 0) = mean f)
    (h0 : ∀ j : Fin 256, a0 (ix2 p j) = f ⟨j.val, by omega⟩) (h1 : ∀ j : Fin 256, a1 (ix2 p j) = f ⟨256 + j.val, by omega⟩) (h2 : ∀ j : Fin 256, a2 (ix2 p j) = f ⟨512 + j.val, by omega⟩) (h3 : ∀ j : Fin 256, a3 (ix2 p j) = f ⟨768 + j.val, by omega⟩) (h4 : ∀ j : Fin 256, a4 (ix2 p j) = f ⟨1024 + j.val, by omega⟩) (h5 : ∀ j : Fin 256, a5 (ix2 p j) = f ⟨1280 + j.val, by omega⟩) (h6 : ∀ j : Fin 256, a6 (ix2 p j) = f ⟨1536 + j.val, by omega⟩) (h7 : ∀ j : Fin 256, a7 (ix2 p j) = f ⟨1792 + j.val, by omega⟩) :
    rs8 mu a0 a1 a2 a3 a4 a5 a6 a7 (ix2 p 0) = rstd f := by
  unfold rs8
  have h := rsum_apply (sq mu a0) (sq mu a1) (sq mu a2) (sq mu a3) (sq mu a4) (sq mu a5) (sq mu a6) (sq mu a7) p (fun j => (f j - mean f) * (f j - mean f))
    (fun j => by rw [sq_apply, h0, hm]) (fun j => by rw [sq_apply, h1, hm]) (fun j => by rw [sq_apply, h2, hm]) (fun j => by rw [sq_apply, h3, hm]) (fun j => by rw [sq_apply, h4, hm]) (fun j => by rw [sq_apply, h5, hm]) (fun j => by rw [sq_apply, h6, hm]) (fun j => by rw [sq_apply, h7, hm])
  generalize rsum (sq mu a0) (sq mu a1) (sq mu a2) (sq mu a3) (sq mu a4) (sq mu a5) (sq mu a6) (sq mu a7) = r at h ⊢
  pointwise [k0_pay29]
  rw [h, mul_inv_2048]
  rfl

/-- The rows of the chunk of row `p`. -/
abbrev chunk (X : Fin 512 → Fin 1024 → EReal) (p : Fin 512) (q : Fin 128) : Fin 1024 → EReal := X ⟨128 * (p.val / 128) + q.val, by omega⟩

/-- A block of channels of the gated mixture, in the layer's terms. -/
theorem y_piece (P : Par) (X : Fin 512 → Fin 1024 → EReal) (hb : FVec Ideal S512x1024 .bf16) (hhb : ∀ p k, hb (ix2 p k) = hrow P (X p) k)
    (wu wt : Vec Ideal S1024x256 .bf16) (mu rs : FVec Ideal S512x1 .f32) (v : Vec Ideal S512x256 .f32) (g b : Vec Ideal S1x256 .f32)
    (bs : Vec Ideal S128x1 .f32) (ws : Vec Ideal S1x128x128 .bf16) (G : Fin 8)
    (hwu : ∀ k (j : Fin 256), wu (ix2 k j) = P.win k ⟨256 * G.val + j.val, by omega⟩)
    (hwt : ∀ k (j : Fin 256), wt (ix2 k j) = P.win k ⟨4096 + (256 * G.val + j.val), by omega⟩)
    (hmu : ∀ p, mu (ix2 p 0) = mean (vrow P (X p))) (hrs : ∀ p, rs (ix2 p 0) = rstd (vrow P (X p)))
    (hv : ∀ p (j : Fin 256), v (ix2 p j) = vrow P (X p) ⟨256 * G.val + j.val, by omega⟩)
    (hg : ∀ j : Fin 256, g (ix2 0 j) = P.vg ⟨256 * G.val + j.val, by omega⟩)
    (hbb : ∀ j : Fin 256, b (ix2 0 j) = P.vb ⟨256 * G.val + j.val, by omega⟩)
    (hbs : ∀ p, bs (ix2 p 0) = P.bs G p) (hws : ∀ p q, ws (ix3 0 p q) = P.ws G p q) (p : Fin 512) (j : Fin 256) :
    yb mu rs v g b bs ws (k0_pay55 hb wu wt) (ix2 p j)
      = gates P (X p) ⟨256 * G.val + j.val, by omega⟩ * mix P (chunk X p) ⟨p.val % 128, by omega⟩ ⟨256 * G.val + j.val, by omega⟩ := by
  rw [yb_apply, ug_apply]
  simp only [vn_apply, hwu, hwt, hhb, hmu, hrs, hv, hg, hbb, hbs, hws]
  unfold gates mix
  have e : (⟨(256 * G.val + j.val) / 256, by omega⟩ : Fin 8) = G := Fin.ext (by show _ / 256 = _; omega)
  simp only [e]
  rfl

/-- The residual sum and the last norm of a block. -/
theorem out_block (P : Par) (x : Vec Ideal S1x512x1024 .f32) (md : Vec Ideal S1x1x3072 .f32) (yv : Vec Ideal S512x2048 .bf16)
    (wo : Vec Ideal S2048x1024 .bf16)
    (hmd : ∀ k, md (ix3 0 0 k) = P.md k) (hwo : ∀ j k, wo (ix2 j k) = P.wout j k)
    (hy : ∀ p j, yv (ix2 p j) = gates P (fun k => x (ix3 0 p k)) j
      * mix P (chunk (fun p k => x (ix3 0 p k)) p) ⟨p.val % 128, by omega⟩ j)
    (p : Fin 512) (k : Fin 1024) :
    k0_pay1 (k0_pay2 x) (k0_pay4 md) yv wo (ix3 0 p k)
      = res P (chunk (fun p k => x (ix3 0 p k)) p) ⟨p.val % 128, by omega⟩ k := by
  pointwise [k0_pay1, k0_pay2, k0_pay4, k0_pay3]
  simp only [hmd, hwo, hy]
  have e : (⟨128 * (p.val / 128) + p.val % 128, by omega⟩ : Fin 512) = p := Fin.ext (by show _ + _ = _; omega)
  simp only [res, chunk, e]

end Cert.Kernel2Ideal.Mlp
end
-- ==== Proof.Same2.lean ====
module

public import proofs.«01_k».proof.Proof.Block2
public import Idealize.ShloMosaic.Lib.Pipeline.Value

@[expose] public section

set_option maxRecDepth 16384
noncomputable section

/-! The first gMLP layer's eight groups of channels run the same code: each group's payloads are the first group's. -/

namespace Cert.Kernel2Ideal.Mlp

open Cert.Kernel2Ideal Cert.Kernel2Ideal.Gen Idealize.ShloMosaic Idealize.ShloMosaic.TcCoe
open Cert.Mlp

variable (hb : FVec Ideal S512x1024 .bf16) (w wu wt : Vec Ideal S1024x256 .bf16)
  (mu rs : FVec Ideal S512x1 .f32) (v : Vec Ideal S512x256 .f32) (g b : Vec Ideal S1x256 .f32) (bs : Vec Ideal S128x1 .f32)
  (ws : Vec Ideal S1x128x128 .bf16) (ug : Vec Ideal S512x256 .f32)

theorem gv6 (x : Vec Ideal S1x512x1024 .f32) (md : Vec Ideal S1x1x3072 .f32) (ng : Vec Ideal S1x1024 .f32) :
    k0_pay6 x md ng w = k0_pay8 (k0_pay5 x md ng) w := rfl
theorem st7 (a : FVec Ideal S512x256 .f32) : k0_pay7 a = a := by
  exact shapeCast_self a _
theorem st12 (a : FVec Ideal S512x256 .f32) : k0_pay12 a = a := st7 a
theorem st9 : k0_pay9 hb w = k0_pay8 hb w := st7 _
theorem gv11 : k0_pay11 hb w = k0_pay8 hb w := rfl
theorem gv13 : k0_pay13 hb w = k0_pay8 hb w := rfl
theorem gv16 : k0_pay16 hb w = k0_pay8 hb w := rfl
theorem gv18 : k0_pay18 hb w = k0_pay8 hb w := rfl
theorem gv21 : k0_pay21 hb w = k0_pay8 hb w := rfl
theorem gv24 : k0_pay24 hb w = k0_pay8 hb w := rfl
theorem st14 : k0_pay14 hb w = k0_pay8 hb w := st7 _
theorem st17 : k0_pay17 hb w = k0_pay8 hb w := st7 _
theorem st19 : k0_pay19 hb w = k0_pay8 hb w := st7 _
theorem st22 : k0_pay22 hb w = k0_pay8 hb w := st7 _
theorem st25 : k0_pay25 hb w = k0_pay8 hb w := st7 _
theorem ug30 : k0_pay30 hb wu wt = k0_pay55 hb wu wt := rfl
theorem ug34 : k0_pay34 (k0_pay31 hb wu) (k0_pay32 hb wt) (k0_pay33 hb wu wt) = k0_pay55 hb wu wt := rfl
theorem ug39 : k0_pay39 (k0_pay37 hb wu wt) (k0_pay38 hb wu wt) = k0_pay55 hb wu wt := rfl
theorem ug48 : k0_pay48 (k0_pay47 hb wu wt) = k0_pay55 hb wu wt := rfl
theorem ug64 : k0_pay64 hb wu wt = k0_pay55 hb wu wt := rfl
theorem ug68 : k0_pay68 hb wu wt = k0_pay55 hb wu wt := rfl
theorem ug72 : k0_pay72 hb wu wt = k0_pay55 hb wu wt := rfl
theorem yb0 :
    k0_pay46 (k0_pay40 mu rs v g b) (k0_pay41 bs) (k0_pay42 mu rs v g b bs ws) (k0_pay43 mu rs v g b bs ws) (k0_pay44 mu rs v g b ws) (k0_pay45 bs) ws ug
      = yb mu rs v g b bs ws ug := rfl
theorem yb1 :
    k0_pay54 (k0_pay49 mu rs v g b) (k0_pay50 bs) (k0_pay51 mu rs v g b bs ws) (k0_pay52 mu rs v g b bs ws) (k0_pay53 mu rs v g b bs ws) ws ug
      = yb mu rs v g b bs ws ug := rfl
theorem yb2 :
    k0_pay63 (k0_pay57 bs) (k0_pay58 mu rs v g b bs ws) (k0_pay59 mu rs v g b bs ws) (k0_pay60 mu rs v g b bs ws) (k0_pay61 ws) (k0_pay62 mu rs v g b) (constant S128x256 .f32 0x00000000#32) ug
      = yb mu rs v g b bs ws ug := rfl
theorem yb3 :
    k0_pay67 (k0_pay66 rs (k0_pay65 mu v) g b bs ws ws ws ws) ug
      = yb mu rs v g b bs ws ug := rfl
theorem yb4 :
    k0_pay71 (k0_pay70 (k0_pay69 mu rs v) g b bs ws ws ws ws ug)
      = yb mu rs v g b bs ws ug := rfl
theorem yb5 :
    k0_pay75 (k0_pay74 (k0_pay73 mu rs v g) b bs ws ws ws ws ug)
      = yb mu rs v g b bs ws ug := rfl
theorem yb6 :
    k0_pay81 (k0_pay76 mu rs v g b) (k0_pay77 bs) (k0_pay78 mu rs v g b bs ws) (k0_pay79 mu rs v g b bs ws) (k0_pay80 mu rs v g b bs ws) ws ug
      = yb mu rs v g b bs ws ug := rfl
theorem yb7 :
    k0_pay87 (k0_pay82 mu rs v g b) (k0_pay83 bs) (k0_pay84 mu rs v g b bs ws) (k0_pay85 ws) (k0_pay86 mu rs v g b) (constant S128x256 .f32 0x00000000#32) ws ws ug
      = yb mu rs v g b bs ws ug := rfl

theorem rs_eq (a0 a2 a4 : FVec Ideal S512x256 .f32) (w1 w3 w5 w6 w7 : Vec Ideal S1024x256 .bf16) (b0 b1 b2 b3 b4 b5 b6 b7 : FVec Ideal S512x256 .f32) :
    k0_pay29 (k0_pay28 (mu8 a0 (k0_pay8 hb w1) a2 (k0_pay8 hb w3) a4 (k0_pay8 hb w5) (k0_pay8 hb w6) (k0_pay8 hb w7))
      (k0_pay27 hb (k0_pay20 hb (k0_pay15 hb (k0_pay10 hb a0 w1) a2 w3) a4 w5) (k0_pay8 hb w6) (k0_pay23 hb w6) w7 b0 b1)
      b2 b3 b4 b5 b6 b7)
      = rs8 (mu8 a0 (k0_pay8 hb w1) a2 (k0_pay8 hb w3) a4 (k0_pay8 hb w5) (k0_pay8 hb w6) (k0_pay8 hb w7)) b0 b1 b2 b3 b4 b5 b6 b7 := rfl

theorem mu_eq (a0 a2 a4 : FVec Ideal S512x256 .f32) (w1 w3 w5 w6 w7 : Vec Ideal S1024x256 .bf16) :
    k0_pay26 hb (k0_pay20 hb (k0_pay15 hb (k0_pay10 hb a0 w1) a2 w3) a4 w5) (k0_pay8 hb w6) (k0_pay23 hb w6) w7
      = mu8 a0 (k0_pay8 hb w1) a2 (k0_pay8 hb w3) a4 (k0_pay8 hb w5) (k0_pay8 hb w6) (k0_pay8 hb w7) := rfl

/-- An activated block of the projection's second third. -/
theorem v_piece (P : Par) (X : Fin 512 → Fin 1024 → EReal) (hhb : ∀ p k, hb (ix2 p k) = hrow P (X p) k)
    (W : Vec Ideal S1024x6144 .bf16) (hW : ∀ k j, W (ix2 k j) = P.win k j) (o : ℕ) (inb) (n : ℕ) (hn : n + 256 ≤ 2048) (ho : o = 2048 + n)
    (p : Fin 512) (j : Fin 256) :
    k0_pay8 hb (View.ld W (Rect.unit (s := S1024x6144) ![0, o] ![1024, 256] inb)) (ix2 p j) = vrow P (X p) ⟨n + j.val, by omega⟩ := by
  subst ho
  rw [gv_apply]
  simp only [hhb]
  pointwise
  simp only [hW, ← Nat.add_assoc]
  simp only [vrow, proj, ← Nat.add_assoc]

/-- One group's stored block, over the group's slices of the weights. -/
theorem ld_piece (P : Par) (X : Fin 512 → Fin 1024 → EReal) (hhb : ∀ p k, hb (ix2 p k) = hrow P (X p) k)
    (W : Vec Ideal S1024x6144 .bf16) (hW : ∀ k j, W (ix2 k j) = P.win k j)
    (VG VB : Vec Ideal S1x2048 .f32) (hVG : ∀ j, VG (ix2 0 j) = P.vg j) (hVB : ∀ j, VB (ix2 0 j) = P.vb j)
    (WS : Vec Ideal S8x128x128 .bf16) (hWS : ∀ g p q, WS (ix3 g p q) = P.ws g p q)
    (BS : Vec Ideal S128x8 .f32) (hBS : ∀ p g, BS (ix2 p g) = P.bs g p)
    (hmu : ∀ p, mu (ix2 p 0) = mean (vrow P (X p))) (hrs : ∀ p, rs (ix2 p 0) = rstd (vrow P (X p)))
    (G : Fin 8) (o o2 o4 : ℕ) (ho : o = 256 * G.val) (ho2 : o2 = 2048 + o) (ho4 : o4 = 4096 + o) (G' : ℕ) (hG : G' = G.val)
    (i0 i2 i4 ig ib ibs iws) (p : Fin 512) (j : Fin 2048) (z : Fin 256) (hj : j.val = o + z.val) :
    yb mu rs (k0_pay8 hb (View.ld W (Rect.unit (s := S1024x6144) ![0, o2] ![1024, 256] i2)))
      (View.ld VG (Rect.unit (s := S1x2048) ![0, o] ![1, 256] ig)) (View.ld VB (Rect.unit (s := S1x2048) ![0, o] ![1, 256] ib))
      (View.ld BS (Rect.unit (s := S128x8) ![0, G'] ![128, 1] ibs)) (View.ld WS (Rect.unit (s := S8x128x128) ![G', 0, 0] ![1, 128, 128] iws))
      (k0_pay55 hb (View.ld W (Rect.unit (s := S1024x6144) ![0, o] ![1024, 256] i0))
        (View.ld W (Rect.unit (s := S1024x6144) ![0, o4] ![1024, 256] i4))) (ix2 p z)
      = gates P (X p) j * mix P (chunk X p) ⟨p.val % 128, by omega⟩ j := by
  subst ho2 ho4 hG
  have hlt : 256 * G.val + z.val < 2048 := by omega
  obtain rfl : ⟨256 * G.val + z.val, hlt⟩ = j := Fin.ext (by show 256 * G.val + z.val = j.val; omega)
  refine y_piece P X hb hhb _ _ mu rs _ _ _ _ _ G ?_ ?_ hmu hrs ?_ ?_ ?_ ?_ ?_ p z
  · intro k j; pointwise; simp only [hW, ho]
  · intro k j; pointwise; simp only [hW, ho, Nat.add_assoc]
  · intro p j
    simp only [← ho]
    exact v_piece hb P X hhb W hW _ _ o (by omega) rfl p j
  · intro j; pointwise; simp only [hVG, ho]
  · intro j; pointwise; simp only [hVB, ho]
  · intro p; pointwise; exact hBS _ _
  · intro p q; pointwise; exact hWS _ _ _

end Cert.Kernel2Ideal.Mlp
end
-- ==== Proof.Run2.lean ====
module

public import proofs.«01_k».proof.Proof.Gen.Kernel2Ideal.Frame.RunA
public import Idealize.ShloMosaic.Lib.Claim

@[expose] public section

set_option maxRecDepth 16384

noncomputable section

/-! The first gMLP layer's run, its body's parts run as skeletons, so that what it stores is named by payloads. -/

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 1000000 in
/-- The body of a grid point run with every part as its skeleton: what it leaves in the result and in the scratch arrays. -/
noncomputable def bodyRun (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .bf16) (harg8 : arg8.IsWhole) (arg9 : Memref sig .tc .vmem S128x8 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x2048 .f32) (harg13 : arg13.IsWhole) (arg14 : Memref sig .tc .vmem S512x2048 .f32) (harg14 : arg14.IsWhole) (arg15 : Memref sig .tc .vmem S512x2048 .bf16) (harg15 : arg15.IsWhole)
    (x0 : Vec F S1x512x1024 .f32) (x1 : Vec F S1x1x3072 .f32) (x2 : Vec F S1x1024 .f32) (x3 : Vec F S1024x6144 .bf16) (x4 : Vec F S1x2048 .f32) (x5 : Vec F S1x2048 .f32) (x6 : Vec F S8x128x128 .bf16) (x7 : Vec F S128x8 .f32) (x8 : Vec F S2048x1024 .bf16) (x9 : Vec F S1x1024 .f32) :
    Σ' (L10 : List (View.Piece (Elt F) S1x512x1024 .f32)), Σ' (LT0 : List (View.Piece (Elt F) S512x2048 .f32)), Σ' (LT1 : List (View.Piece (Elt F) S512x2048 .f32)), { LT2 : List (View.Piece (Elt F) S512x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2)) -∗ K ⟨⟩))
          ⊢ wp frame (wpE (defs₀ (F := F)) Variants.none c none) E (cc0_gmlp_layer i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_gmlp_layer_eq_skeleton]; unfold cc0_gmlp_layer_skel
    simp only [k0_part22_eq_skeleton]; unfold k0_part22_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    iexists _; iexact HS2

/-- The stored pieces cover the result's block. -/
theorem covers (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .bf16) (harg8 : arg8.IsWhole) (arg9 : Memref sig .tc .vmem S128x8 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x2048 .f32) (harg13 : arg13.IsWhole) (arg14 : Memref sig .tc .vmem S512x2048 .f32) (harg14 : arg14.IsWhole) (arg15 : Memref sig .tc .vmem S512x2048 .bf16) (harg15 : arg15.IsWhole)
    (x0 : Vec F S1x512x1024 .f32) (x1 : Vec F S1x1x3072 .f32) (x2 : Vec F S1x1024 .f32) (x3 : Vec F S1024x6144 .bf16) (x4 : Vec F S1x2048 .f32) (x5 : Vec F S1x2048 .f32) (x6 : Vec F S8x128x128 .bf16) (x7 : Vec F S128x8 .f32) (x8 : Vec F S2048x1024 .bf16) (x9 : Vec F S1x1024 .f32) (y : S1x512x1024.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 S1x512x1024.size (by sl_kernel_rfl) y

/-- The result's block after the body. -/
def outBlock (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .bf16) (harg8 : arg8.IsWhole) (arg9 : Memref sig .tc .vmem S128x8 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x2048 .f32) (harg13 : arg13.IsWhole) (arg14 : Memref sig .tc .vmem S512x2048 .f32) (harg14 : arg14.IsWhole) (arg15 : Memref sig .tc .vmem S512x2048 .bf16) (harg15 : arg15.IsWhole)
    (x0 : Vec F S1x512x1024 .f32) (x1 : Vec F S1x1x3072 .f32) (x2 : Vec F S1x1024 .f32) (x3 : Vec F S1024x6144 .bf16) (x4 : Vec F S1x2048 .f32) (x5 : Vec F S1x2048 .f32) (x6 : Vec F S8x128x128 .bf16) (x7 : Vec F S128x8 .f32) (x8 : Vec F S2048x1024 .bf16) (x9 : Vec F S1x1024 .f32) : Vec F S1x512x1024 .f32 :=
  VO0_10.read (Elt F) (VO0_10.writes (Elt F) VO0_10.junk (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1)

/-- The result's block after a grid point. -/
def outsAt (c : Dev nD) (t : Fin cfg0.N) : Vec F S1x512x1024 .f32 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- What the pipeline holds at each grid point. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t)
  Φ _ := Pipeline.ΦA spec0 c
  q _ := fullShare
  owed _ := 0

theorem dat_entry (c : Dev nD) (w : Fin cfg0.W) : (dat m 0 c).A w = V m c (Pipeline.arrRef spec0 w) := by
  dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = iblk m c 4 t := by dsimp only [dat]
theorem after_5 (c : Dev nD) (t : Fin cfg0.N) : (dat m 0 c).after 5 t = iblk m c 5 t := by dsimp only [dat]
theorem after_6 (c : Dev nD) (t : Fin cfg0.N) : (dat m 0 c).after 6 t = iblk m c 6 t := by dsimp only [dat]
theorem after_7 (c : Dev nD) (t : Fin cfg0.N) : (dat m 0 c).after 7 t = iblk m c 7 t := by dsimp only [dat]
theorem after_8 (c : Dev nD) (t : Fin cfg0.N) : (dat m 0 c).after 8 t = iblk m c 8 t := by dsimp only [dat]
theorem after_9 (c : Dev nD) (t : Fin cfg0.N) : (dat m 0 c).after 9 t = iblk m c 9 t := by dsimp only [dat]
theorem after_10 (c : Dev nD) (t : Fin cfg0.N) : (dat m 0 c).after 10 t = (outsAt m c t) := by dsimp only [dat]

theorem before_0 (c : Dev nD) (t : Fin cfg0.N) (d) : (dat m 0 c).before 0 t d = iblk m c 0 t :=
  before0_0_of m (dat m 0 c) (dat_entry m c 0) (after_0 m c) t d
theorem before_1 (c : Dev nD) (t : Fin cfg0.N) (d) : (dat m 0 c).before 1 t d = iblk m c 1 t :=
  before0_1_of m (dat m 0 c) (dat_entry m c 1) (after_1 m c) t d
theorem before_2 (c : Dev nD) (t : Fin cfg0.N) (d) : (dat m 0 c).before 2 t d = iblk m c 2 t :=
  before0_2_of m (dat m 0 c) (dat_entry m c 2) (after_2 m c) t d
theorem before_3 (c : Dev nD) (t : Fin cfg0.N) (d) : (dat m 0 c).before 3 t d = iblk m c 3 t :=
  before0_3_of m (dat m 0 c) (dat_entry m c 3) (after_3 m c) t d
theorem before_4 (c : Dev nD) (t : Fin cfg0.N) (d) : (dat m 0 c).before 4 t d = iblk m c 4 t :=
  before0_4_of m (dat m 0 c) (dat_entry m c 4) (after_4 m c) t d
theorem before_5 (c : Dev nD) (t : Fin cfg0.N) (d) : (dat m 0 c).before 5 t d = iblk m c 5 t :=
  before0_5_of m (dat m 0 c) (dat_entry m c 5) (after_5 m c) t d
theorem before_6 (c : Dev nD) (t : Fin cfg0.N) (d) : (dat m 0 c).before 6 t d = iblk m c 6 t :=
  before0_6_of m (dat m 0 c) (dat_entry m c 6) (after_6 m c) t d
theorem before_7 (c : Dev nD) (t : Fin cfg0.N) (d) : (dat m 0 c).before 7 t d = iblk m c 7 t :=
  before0_7_of m (dat m 0 c) (dat_entry m c 7) (after_7 m c) t d
theorem before_8 (c : Dev nD) (t : Fin cfg0.N) (d) : (dat m 0 c).before 8 t d = iblk m c 8 t :=
  before0_8_of m (dat m 0 c) (dat_entry m c 8) (after_8 m c) t d
theorem before_9 (c : Dev nD) (t : Fin cfg0.N) (d) : (dat m 0 c).before 9 t d = iblk m c 9 t :=
  before0_9_of m (dat m 0 c) (dat_entry m c 9) (after_9 m c) t d

/-- What the body is called with. -/
def held (c : Dev nD) (t : Fin cfg0.N) : sProp (MT nD τ sig Unit (Elt F) ℕ (UR sig nD τ) ℕ) :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare ((dat m 0 c).before 9 t d))
    ∗ (∃ d, owns (c : Thread nD τ) (ms0_10 t) fullShare ((dat m 0 c).before 10 t d)))

/-- What the body returns. -/
def left (c : Dev nD) (t : Fin cfg0.N) : sProp (MT nD τ sig Unit (Elt F) ℕ (UR sig nD τ) ℕ) :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t)
    ∗ owns (c : Thread nD τ) (ms0_8 t) fullShare ((dat m 0 c).after 8 t)
    ∗ owns (c : Thread nD τ) (ms0_9 t) fullShare ((dat m 0 c).after 9 t)
    ∗ owns (c : Thread nD τ) (ms0_10 t) fullShare ((dat m 0 c).after 10 t))

set_option maxHeartbeats 1200000 in
theorem body_sound (c : Dev nD) (t : Fin cfg0.N) :
    held m c t ⊢ wp frame (wpE (defs₀ (F := F)) Variants.none c none) Set.univ (bodyAt0 t) (fun _ => left m c t) := by
  unfold held left bodyAt0
  simp only [before_0, before_1, before_2, before_3, before_4, before_5, before_6, before_7, before_8, before_9]
  rw [show (dat m 0 c).Φ t.succ = (dat m 0 c).Φ t.castSucc from rfl,
    show (dat m 0 c).owesAt () t.succ = (dat m 0 c).owesAt () t.castSucc from rfl,
    after_0, after_1, after_2, after_3, after_4, after_5, after_6, after_7, after_8, after_9, after_10]
  rw [show (dat m 0 c).Φ t.castSucc = Pipeline.ΦA spec0 c from rfl, PhiA0_eq]
  unfold outsAt
  unfold outBlock
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  iintro ⟨H0, H1, H2, H3, H4, H5, H6, H7, H8, H9, ⟨%e10, H10⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (covers c _ _ _ _ _ _ _ _ _ _ _ _ _ _ _ _ _ _ _ _ _ _ _ _ _ _ _ _ _ _ _ _ _ _ _ _ _ _ _)

theorem row_eq (t : Fin cfg0.N) :
    defs₀ (F := F) .tc cfg0.body (cfg0.bodyArgs t (cfg0.slots t)) = bodyAt0 t := by
  unfold defs₀; rw [Defs.onTc_tc]

theorem body_obl (c : Dev nD) : BodyObligation (dat (F := F) m 0 c) (defs₀ (F := F)) Variants.none () Set.univ := fun t => by
  rw [bigSep_W0, bigSep_W0, row_eq]
  exact triple_restated (body_sound m c t) rfl .rfl fun _ => .rfl

set_option backward.isDefEq.respectTransparency.types false in
/-- The program runs, and ends with every counter at zero. -/
theorem run_quiet : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (body_obl m c).loose) (hshare := fun c => (dat m 0 c).share_full fun _ => rfl)
    (howed := fun _ _ => rfl) (V := V m) (hmain := hmain m Variants.none) (hA := dat_entry m) (hΦ := fun _ _ => rfl)

/-- The program runs to the arrays that the pipeline computes. -/
theorem run_all : θ_run defs (onTc (τ := τ) (main (F := F))) (s₀ m ρ) (Pipeline.FramePost cfgs (dat m) 0 (V m)) :=
  (θ_run defs _ _).mono (fun _ h => h.1) (run_quiet m ρ)

end Cert.Kernel2Ideal.Run
end
-- ==== Proof.Entry2.lean ====
module

public import proofs.«01_k».proof.Proof.Gen.Kernel2Ideal.Value
public import proofs.«01_k».proof.Proof.Entry
public import Idealize.ShloMosaic.Lib.Pipeline.ValueKit

@[expose] public section

set_option maxRecDepth 16384
noncomputable section

/-! What each input window's block of the first gMLP layer holds, in the arguments' terms. -/

namespace Cert.Kernel2Ideal.Mlp

open Cert.Kernel2Ideal Cert.Kernel2Ideal.Gen Idealize.ShloMosaic Idealize.ShloMosaic.TcCoe
open Cert.Mlp

variable (m : (ℓ : Loc nD τ sig) → Buf (Elt Ideal) ℓ) (c : Dev nD)

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx10 : ∀ t : Fin cfg0.N, win0_10.index t = ![t.val / 4, t.val % 4, 0] :=
  (by decide +kernel : ∀ t : Fin grid0.N, win0_10.index t = ![t.val / 4, t.val % 4, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

theorem t_lt (t : Fin cfg0.N) : t.val < 128 := t.isLt

theorem blk0 (t : Fin cfg0.N) (p : Fin 512) (k : Fin 1024) :
    iblk m c 0 t (ix3 0 p k) = m ((c : Thread nD τ).loc main_arg0)
      (ix3 ⟨t.val / 4, by have := t_lt t; omega⟩ ⟨512 * (t.val % 4) + p.val, by omega⟩ k) := by
  blk_point [iblk, V, idx0 t]
theorem blk1 (t : Fin cfg0.N) (k : Fin 3072) :
    iblk m c 1 t (ix3 0 0 k) = m ((c : Thread nD τ).loc main_arg1) (ix2 ⟨t.val / 4, by have := t_lt t; omega⟩ k) := by
  blk_point [iblk, V, idx1 t]
theorem blk2 (t : Fin cfg0.N) (k : Fin 1024) :
    iblk m c 2 t (ix2 0 k) = m ((c : Thread nD τ).loc main_arg2) (ix1 k) := by
  blk_point [iblk, V, idx2 t]
theorem blk3 (t : Fin cfg0.N) (k : Fin 1024) (j : Fin 6144) :
    iblk m c 3 t (ix2 k j) = m ((c : Thread nD τ).loc main_arg3) (ix2 k j) := by
  blk_point [iblk, V, idx3 t]
theorem blk4 (t : Fin cfg0.N) (k : Fin 2048) :
    iblk m c 4 t (ix2 0 k) = m ((c : Thread nD τ).loc main_arg4) (ix1 k) := by
  blk_point [iblk, V, idx4 t]
theorem blk5 (t : Fin cfg0.N) (k : Fin 2048) :
    iblk m c 5 t (ix2 0 k) = m ((c : Thread nD τ).loc main_arg5) (ix1 k) := by
  blk_point [iblk, V, idx5 t]
theorem blk6 (t : Fin cfg0.N) (g : Fin 8) (p q : Fin 128) :
    iblk m c 6 t (ix3 g p q) = m ((c : Thread nD τ).loc main_arg6) (ix3 g p q) := by
  blk_point [iblk, V, idx6 t]
theorem blk7 (t : Fin cfg0.N) (p : Fin 128) (g : Fin 8) :
    iblk m c 7 t (ix2 p g) = m ((c : Thread nD τ).loc main_arg7) (ix2 g p) := by
  blk_point [iblk, V, idx7 t]
theorem blk8 (t : Fin cfg0.N) (j : Fin 2048) (k : Fin 1024) :
    iblk m c 8 t (ix2 j k) = m ((c : Thread nD τ).loc main_arg8) (ix2 j k) := by
  blk_point [iblk, V, idx8 t]
/-- The whole result in the arguments' terms. -/
def whole (a0 : S32x2048x1024.Idx → EReal) (P : Fin 32 → Par) (i : S32x2048x1024.Idx) : EReal :=
  res (P (i 0)) (fun q k => a0 (ix3 (i 0) ⟨128 * ((i 1).val / 128) + q.val, by have h : (i 1).val < 2048 := (i 1).isLt; have := q.isLt; show _ < 2048; omega⟩ k))
    ⟨(i 1).val % 128, by omega⟩ (i 2)

end Cert.Kernel2Ideal.Mlp
end
-- ==== Proof.Final2.lean ====
module

public import proofs.«01_k».proof.Proof.Same2
public import proofs.«01_k».proof.Proof.Run2
public import proofs.«01_k».proof.Proof.Entry2
public import Idealize.ShloMosaic.Lib.Pipeline.ReadBack

@[expose] public section

set_option maxRecDepth 16384
noncomputable section

/-! The first gMLP layer's result array is the layer, without the last norm, of its arguments. -/

namespace Cert.Kernel2Ideal.Mlp

open Cert.Kernel2Ideal Cert.Kernel2Ideal.Gen Cert.Kernel2Ideal.Run Idealize.ShloMosaic Idealize.ShloMosaic.TcCoe Idealize.SL.Sem
open Cert.Mlp
open Cert.KernelIdeal.Mlp (par)

variable (m : (ℓ : Loc nD τ sig) → Buf (Elt Ideal) ℓ) (c : Dev nD)

/-- The parameters of a batch entry, from the launch memory. -/
abbrev parM (b : Fin 32) : Par :=
  par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) b

set_option maxHeartbeats 1000000 in
theorem final : (dat m 0 c).arrAt 10 cfg0.N = whole (m ((c : Thread nD τ).loc main_arg0)) (parM m c) := by
  refine (dat m 0 c).arrAt_eq_of_covers 10 _ (by decide +kernel) fun t hf y => ?_
  blk_simp
  rw [after_10]
  unfold outsAt
  frame_open
  simp (disch := decide) only [↓ View.readCov_skip, ↓ View.readCov_cons_toLoadRect, ↓ View.readCov_fill]
  frame_out
  have hx := blk0 m c t
  have hmd := blk1 m c t
  have hng := blk2 m c t
  have hw := blk3 m c t
  have hvg := blk4 m c t
  have hvb := blk5 m c t
  have hws := blk6 m c t
  have hbs := blk7 m c t
  have hwo := blk8 m c t
  generalize iblk m c 0 t = x at hx ⊢
  generalize iblk m c 1 t = md at hmd ⊢
  generalize iblk m c 2 t = ng at hng ⊢
  generalize iblk m c 3 t = w at hw ⊢
  generalize iblk m c 4 t = vg at hvg ⊢
  generalize iblk m c 5 t = vb at hvb ⊢
  generalize iblk m c 6 t = ws at hws ⊢
  generalize iblk m c 7 t = bs at hbs ⊢
  generalize iblk m c 8 t = wo at hwo ⊢
  simp only [gv6, gv11, gv13, gv16, gv18, gv21, gv24, st7, st9, st12, st14, st17, st19, st22, st25, ug30, ug34, ug39, ug48, ug64, ug68, ug72,
    yb0, yb1, yb2, yb3, yb4, yb5, yb6, yb7, mu_eq, rs_eq]
  have hb32 : t.val / 4 < 32 := by have := t_lt t; omega
  obtain ⟨P, hP⟩ : ∃ P, parM m c ⟨t.val / 4, hb32⟩ = P := ⟨_, rfl⟩
  have hmd : ∀ k, md (ix3 0 0 k) = P.md k := hP ▸ hmd
  have hng : ∀ k, ng (ix2 0 k) = P.ng k := hP ▸ hng
  have hw : ∀ k j, w (ix2 k j) = P.win k j := hP ▸ hw
  have hvg : ∀ j, vg (ix2 0 j) = P.vg j := hP ▸ hvg
  have hvb : ∀ j, vb (ix2 0 j) = P.vb j := hP ▸ hvb
  have hws : ∀ g p q, ws (ix3 g p q) = P.ws g p q := hP ▸ hws
  have hbs : ∀ p g, bs (ix2 p g) = P.bs g p := hP ▸ hbs
  have hwo : ∀ j k, wo (ix2 j k) = P.wout j k := hP ▸ hwo
  have hhb := hb_apply P x md ng hmd hng
  generalize k0_pay5 x md ng = hb at hhb ⊢
  idx_vars y
  have e0 : y0 = 0 := by omega
  subst e0
  generalize hyv : (View.whole cc0_scratch2).readCov (Val := Elt Ideal) _ _ = yv
  refine (out_block P x md yv wo hmd hwo ?hy y1 y2).trans ?fin
  case hy =>
    intro p j
    rw [← hyv, View.readCov_eq_canon']
    clear hyv
    generalize hm : mu8 (k0_pay8 hb _) _ _ _ _ _ _ _ = mu
    have hmu : ∀ p, mu (ix2 p 0) = mean (vrow P (fun k => x (ix3 0 p k))) := by
      intro p
      rw [← hm]
      exact mu8_mean _ _ _ _ _ _ _ _ p _ (fun j => (v_piece hb P _ hhb w hw _ _ 0 (by decide) rfl p j).trans (congrArg _ (Fin.ext (Nat.zero_add _)))) (fun j => v_piece hb P _ hhb w hw _ _ 256 (by decide) rfl p j) (fun j => v_piece hb P _ hhb w hw _ _ 512 (by decide) rfl p j) (fun j => v_piece hb P _ hhb w hw _ _ 768 (by decide) rfl p j) (fun j => v_piece hb P _ hhb w hw _ _ 1024 (by decide) rfl p j) (fun j => v_piece hb P _ hhb w hw _ _ 1280 (by decide) rfl p j) (fun j => v_piece hb P _ hhb w hw _ _ 1536 (by decide) rfl p j) (fun j => v_piece hb P _ hhb w hw _ _ 1792 (by decide) rfl p j)
    clear hm
    generalize hr : rs8 mu (k0_pay8 hb _) _ _ _ _ _ _ _ = rs
    have hrs : ∀ p, rs (ix2 p 0) = rstd (vrow P (fun k => x (ix3 0 p k))) := by
      intro p
      rw [← hr]
      exact rs8_rstd _ _ _ _ _ _ _ _ _ p _ (hmu p) (fun j => (v_piece hb P _ hhb w hw _ _ 0 (by decide) rfl p j).trans (congrArg _ (Fin.ext (Nat.zero_add _)))) (fun j => v_piece hb P _ hhb w hw _ _ 256 (by decide) rfl p j) (fun j => v_piece hb P _ hhb w hw _ _ 512 (by decide) rfl p j) (fun j => v_piece hb P _ hhb w hw _ _ 768 (by decide) rfl p j) (fun j => v_piece hb P _ hhb w hw _ _ 1024 (by decide) rfl p j) (fun j => v_piece hb P _ hhb w hw _ _ 1280 (by decide) rfl p j) (fun j => v_piece hb P _ hhb w hw _ _ 1536 (by decide) rfl p j) (fun j => v_piece hb P _ hhb w hw _ _ 1792 (by decide) rfl p j)
    clear hr
    canon_tiles z h
    · idx_vars z
      have e0 : 0 + 1 * p.val = z0.val := h0
      have e1 : 0 + 1 * j.val = 1792 + z1.val := h1
      obtain rfl : p = z0 := Fin.ext (by omega)
      exact ld_piece hb mu rs P _ hhb w hw vg vb hvg hvb ws hws bs hbs hmu hrs 7 1792 3840 5888 rfl rfl rfl 7 rfl _ _ _ _ _ _ _ p j z1 (by omega)
    · idx_vars z
      have e0 : 0 + 1 * p.val = z0.val := h0
      have e1 : 0 + 1 * j.val = 1536 + z1.val := h1
      obtain rfl : p = z0 := Fin.ext (by omega)
      exact ld_piece hb mu rs P _ hhb w hw vg vb hvg hvb ws hws bs hbs hmu hrs 6 1536 3584 5632 rfl rfl rfl 6 rfl _ _ _ _ _ _ _ p j z1 (by omega)
    · idx_vars z
      have e0 : 0 + 1 * p.val = z0.val := h0
      have e1 : 0 + 1 * j.val = 1280 + z1.val := h1
      obtain rfl : p = z0 := Fin.ext (by omega)
      exact ld_piece hb mu rs P _ hhb w hw vg vb hvg hvb ws hws bs hbs hmu hrs 5 1280 3328 5376 rfl rfl rfl 5 rfl _ _ _ _ _ _ _ p j z1 (by omega)
    · idx_vars z
      have e0 : 0 + 1 * p.val = z0.val := h0
      have e1 : 0 + 1 * j.val = 1024 + z1.val := h1
      obtain rfl : p = z0 := Fin.ext (by omega)
      exact ld_piece hb mu rs P _ hhb w hw vg vb hvg hvb ws hws bs hbs hmu hrs 4 1024 3072 5120 rfl rfl rfl 4 rfl _ _ _ _ _ _ _ p j z1 (by omega)
    · idx_vars z
      have e0 : 0 + 1 * p.val = z0.val := h0
      have e1 : 0 + 1 * j.val = 768 + z1.val := h1
      obtain rfl : p = z0 := Fin.ext (by omega)
      exact ld_piece hb mu rs P _ hhb w hw vg vb hvg hvb ws hws bs hbs hmu hrs 3 768 2816 4864 rfl rfl rfl 3 rfl _ _ _ _ _ _ _ p j z1 (by omega)
    · idx_vars z
      have e0 : 0 + 1 * p.val = z0.val := h0
      have e1 : 0 + 1 * j.val = 512 + z1.val := h1
      obtain rfl : p = z0 := Fin.ext (by omega)
      exact ld_piece hb mu rs P _ hhb w hw vg vb hvg hvb ws hws bs hbs hmu hrs 2 512 2560 4608 rfl rfl rfl 2 rfl _ _ _ _ _ _ _ p j z1 (by omega)
    · idx_vars z
      have e0 : 0 + 1 * p.val = z0.val := h0
      have e1 : 0 + 1 * j.val = 256 + z1.val := h1
      obtain rfl : p = z0 := Fin.ext (by omega)
      exact ld_piece hb mu rs P _ hhb w hw vg vb hvg hvb ws hws bs hbs hmu hrs 1 256 2304 4352 rfl rfl rfl 1 rfl _ _ _ _ _ _ _ p j z1 (by omega)
    · idx_vars z
      have e0 : 0 + 1 * p.val = z0.val := h0
      have e1 : 0 + 1 * j.val = z1.val := h1
      obtain rfl : p = z0 := Fin.ext (by omega)
      exact ld_piece hb mu rs P _ hhb w hw vg vb hvg hvb ws hws bs hbs hmu hrs 0 0 2048 4096 rfl rfl rfl 0 rfl _ _ _ _ _ _ _ p j z1 (by omega)
  case fin =>
    have e : (win0_10.blk t).view.emb (ix3 0 y1 y2) = ix3 ⟨t.val / 4, hb32⟩ ⟨512 * (t.val % 4) + y1.val, by omega⟩ y2 := by
      blk_ext [idx10 t]
    blk_simp
    rw [e]
    show _ = res (parM m c ⟨t.val / 4, hb32⟩) (fun q k => m ((c : Thread nD τ).loc main_arg0) (ix3 ⟨t.val / 4, hb32⟩
      ⟨128 * ((512 * (t.val % 4) + y1.val) / 128) + q.val, by omega⟩ k)) ⟨(512 * (t.val % 4) + y1.val) % 128, by omega⟩ y2
    rw [hP]
    refine congr (congrArg₂ (res P) (funext fun q => funext fun k => ?_) (Fin.ext ?_)) rfl
    · refine (hx _ k).trans (congrArg (fun r => m ((c : Thread nD τ).loc main_arg0) (ix3 ⟨t.val / 4, hb32⟩ r k)) (Fin.ext ?_))
      show 512 * (t.val % 4) + (128 * (y1.val / 128) + q.val) = 128 * ((512 * (t.val % 4) + y1.val) / 128) + q.val
      omega
    · show y1.val % 128 = (512 * (t.val % 4) + y1.val) % 128
      omega

end Cert.Kernel2Ideal.Mlp
end
-- ==== Proof.Ref2.lean ====
module

public import proofs.«01_k».proof.Proof.Entry2
public import proofs.«01_k».proof.Proof.Ref
public import proofs.«01_k».proof.Proof.Gen.Reference2Ideal.Read

@[expose] public section

set_option maxRecDepth 16384
noncomputable section

/-! The reference of the first gMLP layer. -/

namespace Cert.Reference2Ideal.Mlp

open Idealize.ShloMosaic Cert.Mlp
open Cert.KernelIdeal.Mlp (par)
open Cert.ReferenceIdeal

variable (x0 : S32x2048x1024.Idx → EReal) (x1 : S32x3072.Idx → EReal) (x2 : S1024.Idx → EReal) (x3 : S1024x6144.Idx → EReal) (x4 x5 : S2048.Idx → EReal)
  (x6 : S8x128x128.Idx → EReal) (x7 : S8x128.Idx → EReal) (x8 : S2048x1024.Idx → EReal) (x9 : S1024.Idx → EReal)

/-- Up to the residual sum the two references run the same operations. -/
theorem e93 : Cert.Reference2Ideal.Read.val_main_v93 (F := Ideal) x0 x1 x2 x3 x4 x5 x6 x7 x8
    = Cert.ReferenceIdeal.Read.val_main_v93 (F := Ideal) x0 x1 x2 x3 x4 x5 x6 x7 x8 := rfl

/-- The reference's result. -/
theorem h93 : Cert.Reference2Ideal.Read.val_main_v93 (F := Ideal) x0 x1 x2 x3 x4 x5 x6 x7 x8
    = Cert.Kernel2Ideal.Mlp.whole x0 (par x1 x2 x3 x4 x5 x6 x7 x8 x9) := by
  rw [e93]
  funext y
  idx_vars y
  exact Cert.ReferenceIdeal.Mlp.h93 x0 x1 x2 x3 x4 x5 x6 x7 x8 x9 y0 y1 y2

end Cert.Reference2Ideal.Mlp
end
-- ==== Proof.Pool.lean ====
module

public import proofs.«01_k».proof.Proof.Spec

@[expose] public section

noncomputable section

/-! The pooling layer on one sequence of 2048 tokens over the extended reals, its windows written as sums. -/

namespace Cert.Pool

open Idealize.ShloMosaic
open Cert.Mlp (rms silu eps)

/-- The pooling layer's parameters for one batch entry: modulation, the norm's gain, the fused input projection, the groups' mixing weights, their
    scale, and the output projection. -/
structure Par where
  md : Fin 3072 → EReal
  ng : Fin 1024 → EReal
  win : Fin 1024 → Fin 4096 → EReal
  wg : Fin 4 → Fin 512 → Fin 512 → EReal
  sc : Fin 2048 → EReal
  wout : Fin 2048 → Fin 1024 → EReal

variable (P : Par)

/-- The modulated norm of a token. -/
def hrow (x : Fin 1024 → EReal) (k : Fin 1024) : EReal :=
  x k * rms x * P.ng k * (1 + P.md ⟨1024 + k.val, by omega⟩) + P.md ⟨k.val, by omega⟩

/-- The fused projection of a token. -/
def proj (x : Fin 1024 → EReal) (j : Fin 4096) : EReal := ∑ k, hrow P x k * P.win k j

variable (X : Fin 2048 → Fin 1024 → EReal)

/-- Channel `j` of the projection's first half at position `n`, zero past the sequence's end. -/
def seqv (j : Fin 2048) (n : ℕ) : EReal := if h : n < 2048 then proj P (X ⟨n, h⟩) ⟨j.val, by omega⟩ else 0

/-- The same, moved eight positions up. -/
def padv (f : ℕ → EReal) (n : ℕ) : EReal := if 8 ≤ n then f (n - 8) else 0

/-- The sum over the window of `2h` positions that starts `h` before `s`. -/
def wsum (f : ℕ → EReal) (h s : ℕ) : EReal := ∑ k ∈ Finset.range (2 * h), padv f (s + (8 - h) + k)

/-- How many positions of that window are in the sequence. -/
def cnt (h s : ℕ) : ℕ := min (s + h) 2048 - (s - h)

/-- The windowed mean of channel `j` less the channel, the half width `h`. -/
def pooled (h : ℕ) (j : Fin 2048) (s : ℕ) : EReal :=
  Ideal.div (wsum (seqv P X j) h s) ((cnt h s : ℝ) : EReal) - seqv P X j s

/-- A group's mixing: the group of channel `j` is `j / 512`, its half width `2 ^ (j / 512)`. -/
def mixed (s : ℕ) (j : Fin 2048) : EReal :=
  (∑ q : Fin 512, pooled P X (2 ^ (j.val / 512)) ⟨512 * (j.val / 512) + q.val, by omega⟩ s
    * P.wg ⟨j.val / 512, by omega⟩ q ⟨j.val % 512, by omega⟩) * P.sc j

/-- The layer's result. -/
def res (s : Fin 2048) (k : Fin 1024) : EReal :=
  X s k + P.md ⟨2048 + k.val, by omega⟩ * ∑ j : Fin 2048, mixed P X s.val j * silu (proj P (X s) ⟨2048 + j.val, by omega⟩) * P.wout j k

/-! ## A window's sum is a difference of two prefix sums -/

theorem sum_padv (f : ℕ → EReal) (n : ℕ) : ∑ k ∈ Finset.range (n + 8), padv f k = ∑ k ∈ Finset.range n, f k := by
  rw [Nat.add_comm, Finset.sum_range_add, Finset.sum_eq_zero, zero_add]
  · refine Finset.sum_congr rfl fun k _ => ?_
    rw [padv, if_pos (by omega), Nat.add_sub_cancel_left]
  · intro k hk
    rw [padv, if_neg (by have := Finset.mem_range.1 hk; omega)]

theorem coe_sum {ι : Type} (A : Finset ι) (r : ι → ℝ) : ∑ i ∈ A, ((r i : ℝ) : EReal) = ((∑ i ∈ A, r i : ℝ) : EReal) := by
  classical
  induction A using Finset.induction_on with
  | empty => rfl
  | insert a A ha ih => rw [Finset.sum_insert ha, Finset.sum_insert ha, EReal.coe_add, ih]

theorem sum_low (f : ℕ → EReal) (h s : ℕ) (hh : h ≤ 8) :
    ∑ k ∈ Finset.range (s + (8 - h)), padv f k = ∑ k ∈ Finset.range (s - h), f k := by
  rcases le_total h s with hs | hs
  · have e : s + (8 - h) = s - h + 8 := by omega
    rw [e, sum_padv]
  · rw [Nat.sub_eq_zero_of_le hs, Finset.sum_range_zero]
    refine Finset.sum_eq_zero fun k hk => ?_
    rw [padv, if_neg (by have := Finset.mem_range.1 hk; omega)]

theorem sum_high (f : ℕ → EReal) (hf : ∀ n, 2048 ≤ n → f n = 0) (n : ℕ) :
    ∑ k ∈ Finset.range (min n 2048), f k = ∑ k ∈ Finset.range n, f k := by
  rcases le_total n 2048 with h | h
  · rw [min_eq_left h]
  · rw [min_eq_right h]
    refine Finset.sum_subset (Finset.range_mono h) fun k _ hk => hf k ?_
    have := Finset.mem_range.not.1 hk
    omega

theorem prefix_sub (f : ℕ → EReal) (hf : ∀ n, 2048 ≤ n → f n = 0) (hr : ∀ n, ∃ r : ℝ, f n = (r : EReal)) (h s : ℕ) (hh : h ≤ 8) :
    ∑ k ∈ Finset.range (min (s + h) 2048), f k - ∑ k ∈ Finset.range (s - h), f k = wsum f h s := by
  choose r hr using hr
  rw [sum_high f hf, ← sum_padv, ← sum_low f h s hh]
  have e : s + h + 8 = s + (8 - h) + 2 * h := by omega
  rw [e, Finset.sum_range_add]
  have hl : ∃ a : ℝ, ∑ k ∈ Finset.range (s + (8 - h)), padv f k = (a : EReal) := by
    rw [sum_low f h s hh]
    exact ⟨∑ k ∈ Finset.range (s - h), r k, by simp only [hr, coe_sum]⟩
  obtain ⟨a, ha⟩ := hl
  rw [ha, add_comm, EReal.add_sub_cancel_right]
  rfl

theorem cnt_pos (h s : ℕ) (hs : s < 2048) (hh : 0 < h) : 0 < cnt h s := by unfold cnt; omega

/-- The kernel multiplies by the reciprocal of the count. -/
theorem mul_recip (x : EReal) (h s : ℕ) (hs : s < 2048) (hh : 0 < h) :
    x * Ideal.div 1 ((cnt h s : ℝ) : EReal) = Ideal.div x ((cnt h s : ℝ) : EReal) := by
  have hp : ((cnt h s : ℕ) : ℝ) ≠ 0 := by exact_mod_cast (cnt_pos h s hs hh).ne'
  rw [Ideal.div_coe hp, Ideal.div_coe hp, one_mul]

/-! ## Where the parameters are real numbers the projection is one -/

/-- A real number among the extended reals. -/
def Real' (x : EReal) : Prop := ∃ r : ℝ, x = (r : EReal)

theorem real_mul {x y : EReal} (hx : Real' x) (hy : Real' y) : Real' (x * y) := by
  obtain ⟨a, rfl⟩ := hx
  obtain ⟨b, rfl⟩ := hy
  exact ⟨a * b, (EReal.coe_mul a b).symm⟩

theorem real_add {x y : EReal} (hx : Real' x) (hy : Real' y) : Real' (x + y) := by
  obtain ⟨a, rfl⟩ := hx
  obtain ⟨b, rfl⟩ := hy
  exact ⟨a + b, (EReal.coe_add a b).symm⟩

theorem real_sum {n : ℕ} (f : Fin n → EReal) (h : ∀ i, Real' (f i)) : Real' (∑ i, f i) := by
  choose r hr using h
  exact ⟨∑ i, r i, by simp only [hr, coe_sum]⟩

/-- The small number under the root as a real number. -/
theorem eps_real : ∃ e : ℝ, 0 < e ∧ eps = (e : EReal) := by
  refine ⟨8796093 / 8796093022208, by norm_num, ?_⟩
  show Ideal.ofBits .f32 _ = _
  simp [Ideal.ofBits, Ideal.ieee, -EReal.coe_mul]; norm_num

theorem n1024 : Ideal.ofBits .f32 0x44800000#32 = ((1024 : ℝ) : EReal) := by
  simp [Ideal.ofBits, Ideal.ieee, -EReal.coe_mul]; norm_num

theorem rms_real (x : Fin 1024 → EReal) (h : ∀ k, Real' (x k)) : Real' (rms x) := by
  choose r hr using h
  obtain ⟨e, he, hE⟩ := eps_real
  have hp : 0 < (∑ k, r k * r k) * (1 / 1024) + e := by
    have : 0 ≤ ∑ k, r k * r k := Finset.sum_nonneg fun k _ => mul_self_nonneg _
    positivity
  have hs : ∑ k, x k * x k = ((∑ k, r k * r k : ℝ) : EReal) := by simp only [hr, ← EReal.coe_mul, coe_sum]
  unfold rms
  rw [hs, n1024, hE, Ideal.div_coe (by norm_num), ← EReal.coe_mul, ← EReal.coe_add, Ideal.rsqrt_coe, if_neg (by linarith), if_neg hp.ne']
  exact ⟨_, rfl⟩

theorem mul_self_bounds (x : EReal) : 0 ≤ x * x ∧ (¬ Real' x → x * x = ⊤) := by
  induction x using EReal.rec with
  | bot => exact ⟨by simp, fun _ => by simp⟩
  | coe r => exact ⟨by rw [← EReal.coe_mul]; exact_mod_cast mul_self_nonneg r, fun h => absurd ⟨r, rfl⟩ h⟩
  | top => exact ⟨by simp, fun _ => by simp⟩

/-- A token with an infinite entry has the reciprocal root mean square zero. -/
theorem rms_inf (x : Fin 1024 → EReal) (k : Fin 1024) (h : ¬ Real' (x k)) : rms x = 0 := by
  have hs : ∑ k, x k * x k = ⊤ :=
    top_le_iff.1 (((mul_self_bounds (x k)).2 h).ge.trans
      (Finset.single_le_sum (f := fun k => x k * x k) (fun i _ => (mul_self_bounds (x i)).1) (Finset.mem_univ k)))
  obtain ⟨e, he, hE⟩ := eps_real
  unfold rms
  rw [hs, n1024, hE, Ideal.div_coe (by norm_num), EReal.top_mul_coe_of_pos (by norm_num), EReal.top_add_coe]
  rfl

/-- A normed entry is real, whatever the token. -/
theorem norm_real (x : Fin 1024 → EReal) (k : Fin 1024) : Real' (x k * rms x) := by
  by_cases hx : ∀ k, Real' (x k)
  · exact real_mul (hx k) (rms_real x hx)
  · obtain ⟨i, hi⟩ := not_forall.1 hx
    exact ⟨0, by rw [rms_inf x i hi, mul_zero, EReal.coe_zero]⟩

theorem proj_real (x : Fin 1024 → EReal) (hm : ∀ k, Real' (P.md k)) (hg : ∀ k, Real' (P.ng k))
    (hw : ∀ k j, Real' (P.win k j)) (j : Fin 4096) : Real' (proj P x j) :=
  real_sum _ fun k => real_mul (real_add (real_mul (real_mul (norm_real x k) (hg k))
    (real_add ⟨1, EReal.coe_one.symm⟩ (hm _))) (hm _)) (hw k j)

theorem seqv_real (hm : ∀ k, Real' (P.md k)) (hg : ∀ k, Real' (P.ng k))
    (hw : ∀ k j, Real' (P.win k j)) (j : Fin 2048) (n : ℕ) : Real' (seqv P X j n) := by
  unfold seqv
  split
  · exact proj_real P _ hm hg hw _
  · exact ⟨0, EReal.coe_zero.symm⟩

theorem seqv_zero (j : Fin 2048) (n : ℕ) (h : 2048 ≤ n) : seqv P X j n = 0 := by
  rw [seqv, dif_neg (by omega)]

end Cert.Pool

end
-- ==== Proof.Entry3.lean ====
module

public import proofs.«01_k».proof.Proof.Gen.Kernel3Ideal.Value
public import proofs.«01_k».proof.Proof.Pool
public import Idealize.ShloMosaic.Lib.Pipeline.ValueKit

@[expose] public section

set_option maxRecDepth 16384
noncomputable section

/-! What each input window's block of the pooling layer holds, in the arguments' terms. -/

namespace Cert.Kernel3Ideal.Pool

open Cert.Kernel3Ideal Cert.Kernel3Ideal.Gen Idealize.ShloMosaic Idealize.ShloMosaic.TcCoe
open Cert.Pool

variable (m : (ℓ : Loc nD τ sig) → Buf (Elt Ideal) ℓ) (c : Dev nD)

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 64 * (t.val % 4) - 1, 0] :=
  (by decide +kernel : ∀ t : Fin grid0.N, win0_1.index t = ![t.val / 4, 64 * (t.val % 4) - 1, 0])
theorem idx2 : ∀ t : Fin cfg0.N, win0_2.index t = ![t.val / 4, min (64 * (t.val % 4) + 64) 255, 0] :=
  (by decide +kernel : ∀ t : Fin grid0.N, win0_2.index t = ![t.val / 4, min (64 * (t.val % 4) + 64) 255, 0])
theorem idx3 : ∀ t : Fin cfg0.N, win0_3.index t = ![t.val / 4, 0, 0] :=
  (by decide +kernel : ∀ t : Fin grid0.N, win0_3.index t = ![t.val / 4, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val / 4, t.val % 4, 0] :=
  (by decide +kernel : ∀ t : Fin grid0.N, win0_9.index t = ![t.val / 4, t.val % 4, 0])

theorem t_lt (t : Fin cfg0.N) : t.val < 128 := t.isLt

theorem blk0 (t : Fin cfg0.N) (p : Fin 512) (k : Fin 1024) :
    iblk m c 0 t (ix3 0 p k) = m ((c : Thread nD τ).loc main_arg0)
      (ix3 ⟨t.val / 4, by have := t_lt t; omega⟩ ⟨512 * (t.val % 4) + p.val, by omega⟩ k) := by
  blk_point [iblk, V, idx0 t]
theorem blk1 (t : Fin cfg0.N) (e : Fin 8) (k : Fin 1024) :
    iblk m c 1 t (ix3 0 e k) = m ((c : Thread nD τ).loc main_arg0)
      (ix3 ⟨t.val / 4, by have := t_lt t; omega⟩ ⟨8 * (64 * (t.val % 4) - 1) + e.val, by omega⟩ k) := by
  blk_point [iblk, V, idx1 t]
theorem blk2 (t : Fin cfg0.N) (e : Fin 8) (k : Fin 1024) :
    iblk m c 2 t (ix3 0 e k) = m ((c : Thread nD τ).loc main_arg0)
      (ix3 ⟨t.val / 4, by have := t_lt t; omega⟩ ⟨8 * min (64 * (t.val % 4) + 64) 255 + e.val, by omega⟩ k) := by
  blk_point [iblk, V, idx2 t]
theorem blk3 (t : Fin cfg0.N) (k : Fin 3072) :
    iblk m c 3 t (ix3 0 0 k) = m ((c : Thread nD τ).loc main_arg1) (ix2 ⟨t.val / 4, by have := t_lt t; omega⟩ k) := by
  blk_point [iblk, V, idx3 t]
theorem blk4 (t : Fin cfg0.N) (k : Fin 1024) :
    iblk m c 4 t (ix2 0 k) = m ((c : Thread nD τ).loc main_arg2) (ix1 k) := by
  blk_point [iblk, V, idx4 t]
theorem blk5 (t : Fin cfg0.N) (k : Fin 1024) (j : Fin 4096) :
    iblk m c 5 t (ix2 k j) = m ((c : Thread nD τ).loc main_arg3) (ix2 k j) := by
  blk_point [iblk, V, idx5 t]
theorem blk6 (t : Fin cfg0.N) (g : Fin 4) (p q : Fin 512) :
    iblk m c 6 t (ix3 g p q) = m ((c : Thread nD τ).loc main_arg4) (ix3 g p q) := by
  blk_point [iblk, V, idx6 t]
theorem blk7 (t : Fin cfg0.N) (k : Fin 2048) :
    iblk m c 7 t (ix2 0 k) = m ((c : Thread nD τ).loc main_arg5) (ix1 k) := by
  blk_point [iblk, V, idx7 t]
theorem blk8 (t : Fin cfg0.N) (j : Fin 2048) (k : Fin 1024) :
    iblk m c 8 t (ix2 j k) = m ((c : Thread nD τ).loc main_arg6) (ix2 j k) := by
  blk_point [iblk, V, idx8 t]

/-- The parameters of batch entry `b`. -/
abbrev par (a1 : S32x3072.Idx → EReal) (a2 : S1024.Idx → EReal) (a3 : S1024x4096.Idx → EReal) (a4 : S4x512x512.Idx → EReal)
    (a5 : S2048.Idx → EReal) (a6 : S2048x1024.Idx → EReal) (b : Fin 32) : Par where
  md k := a1 (ix2 b k)
  ng k := a2 (ix1 k)
  win k j := a3 (ix2 k j)
  wg g p q := a4 (ix3 g p q)
  sc j := a5 (ix1 j)
  wout j k := a6 (ix2 j k)

/-- The layer of the whole array. -/
def whole (a0 : S32x2048x1024.Idx → EReal) (P : Fin 32 → Par) : S32x2048x1024.Idx → EReal := fun y =>
  res (P (y 0)) (fun s k => a0 (ix3 (y 0) s k)) (y 1) (y 2)

end Cert.Kernel3Ideal.Pool
end
-- ==== Proof.Block3.lean ====
module

public import proofs.«01_k».proof.Proof.Gen.Kernel3Ideal.Skeleton
public import proofs.«01_k».proof.Proof.Pool
public import Idealize.ShloMosaic.Lib.Pipeline.Value

@[expose] public section

set_option maxRecDepth 16384
noncomputable section

/-! The pooling layer's payloads read at an index, over the extended reals. -/

namespace Cert.Kernel3Ideal.Pool

open Cert.Kernel3Ideal Cert.Kernel3Ideal.Gen Idealize.ShloMosaic Idealize.ShloMosaic.TcCoe
open Cert.Pool

/-- A row of the block joined with its two neighbours. -/
def joined (x : Vec Ideal S1x512x1024 .f32) (xp xn : Vec Ideal S1x8x1024 .f32) (e : Fin 528) (k : Fin 1024) : EReal :=
  if h : e.val < 8 then xp (ix3 0 ⟨e.val, h⟩ k)
  else if h' : e.val - 8 < 512 then x (ix3 0 ⟨e.val - 8, h'⟩ k) else xn (ix3 0 ⟨e.val - 8 - 512, by omega⟩ k)

/-- The normed block is the modulated norm of each of its rows. -/
theorem hb_apply (P : Par) (x : Vec Ideal S1x512x1024 .f32) (md : Vec Ideal S1x1x3072 .f32) (xp xn : Vec Ideal S1x8x1024 .f32) (ng : Vec Ideal S1x1024 .f32)
    (hmd : ∀ k, md (ix3 0 0 k) = P.md k) (hng : ∀ k, ng (ix2 0 k) = P.ng k) (e : Fin 528) (k : Fin 1024) :
    k0_pay5 x md xp xn ng (ix2 e k) = hrow P (joined x xp xn e) k := by
  pointwise [k0_pay5, k0_pay2, k0_pay3]
  simp only [hmd, hng]
  unfold hrow
  rw [mul_assoc (_ * _) (P.ng k)]
  rfl

theorem joined_eq (X : Fin 2048 → Fin 1024 → EReal) (x : Vec Ideal S1x512x1024 .f32) (xp xn : Vec Ideal S1x8x1024 .f32) (i : ℕ) (hi : i < 4)
    (hx : ∀ p k, x (ix3 0 p k) = X ⟨512 * i + p.val, by omega⟩ k)
    (hxp : ∀ e k, xp (ix3 0 e k) = X ⟨8 * (64 * i - 1) + e.val, by omega⟩ k)
    (hxn : ∀ e k, xn (ix3 0 e k) = X ⟨8 * min (64 * i + 64) 255 + e.val, by omega⟩ k)
    (e : Fin 528) (h8 : 8 ≤ 512 * i + e.val) (h : 512 * i + e.val - 8 < 2048) :
    joined x xp xn e = X ⟨512 * i + e.val - 8, h⟩ := by
  funext k
  unfold joined
  split
  · rw [hxp]
    exact congrArg (fun s => X s k) (Fin.ext (by show 8 * (64 * i - 1) + e.val = 512 * i + e.val - 8; omega))
  · split
    · rw [hx]
      exact congrArg (fun s => X s k) (Fin.ext (by show 512 * i + (e.val - 8) = 512 * i + e.val - 8; omega))
    · rw [hxn]
      exact congrArg (fun s => X s k) (Fin.ext (by show 8 * min (64 * i + 64) 255 + (e.val - 8 - 512) = 512 * i + e.val - 8; omega))

/-- The kernel's position of a row. -/
def posw (w : BitVec 32) (e : Fin 528) : BitVec 32 := IntOp.addi (Scalar.subi (Scalar.muli w 512#32) 8#32) (BitVec.ofNat 32 e.val)

/-- The kernel's position test. -/
def posb (w : BitVec 32) (e : Fin 528) : BitVec 1 := IntOp.andi (IntOp.cmpi .sge (posw w e) 0#32) (IntOp.cmpi .slt (posw w e) 2048#32)

theorem inseq : ∀ (i : Fin 4) (e : Fin 528), posb (BitVec.ofNat 32 i.val) e
    = if 8 ≤ 512 * i.val + e.val ∧ 512 * i.val + e.val - 8 < 2048 then 1#1 else 0#1 := by
  decide +kernel

/-- The stored projection is the sequence's, moved up by eight positions. -/
theorem ps_apply (P : Par) (X : Fin 2048 → Fin 1024 → EReal) (hb : FVec Ideal S528x1024 .f32) (Z : Fin 528 → Fin 1024 → EReal)
    (hhb : ∀ e k, hb (ix2 e k) = hrow P (Z e) k) (g : grid0.Coords) (i : ℕ) (hi : i < 4) (hg : (g 1).val = i)
    (hZ : ∀ (e : Fin 528) (_ : 8 ≤ 512 * i + e.val) (h : 512 * i + e.val - 8 < 2048), Z e = X ⟨512 * i + e.val - 8, h⟩)
    (w : Vec Ideal S1024x2048 .bf16) (hw : ∀ k (j : Fin 2048), w (ix2 k j) = P.win k ⟨j.val, by omega⟩) (e : Fin 528) (j : Fin 2048) :
    k0_pay8 hb (k0_pay6 g) k0_pay7 w (ix2 e j) = padv (seqv P X j) (512 * i + e.val) := by
  pointwise [k0_pay8, k0_pay6, k0_pay7]
  rw [hg]
  change Scalar.select (posb (BitVec.ofNat 32 i) e) _ _ = _
  rw [inseq ⟨i, hi⟩ e]
  simp only [hhb, hw]
  unfold padv seqv
  by_cases h8 : 8 ≤ 512 * i + e.val
  · by_cases h : 512 * i + e.val - 8 < 2048
    · rw [if_pos ⟨h8, h⟩, if_pos h8, dif_pos h, hZ e h8 h]
      rfl
    · rw [if_neg (fun q => h q.2), if_pos h8, dif_neg h]
      rfl
  · rw [if_neg (fun q => h8 q.1), if_neg h8]
    rfl

theorem gt_apply (hb : FVec Ideal S528x1024 .f32) (w : Vec Ideal S1024x2048 .bf16) (p : Fin 512) (j : Fin 2048) :
    k0_pay9 hb w (ix2 p j) = ∑ k, hb (ix2 ⟨8 + p.val, by omega⟩ k) * w (ix2 k j) := by
  pointwise [k0_pay9]

/-- The kernel's count of the window's positions in the sequence, as a word. -/
def cw (w h : BitVec 32) (p : Fin 512) : BitVec 32 :=
  IntOp.subi (IntOp.minsi (IntOp.addi (IntOp.addi (Scalar.muli w 512#32) (BitVec.ofNat 32 p.val)) h) 2048#32)
    (IntOp.maxsi (IntOp.subi (IntOp.addi (Scalar.muli w 512#32) (BitVec.ofNat 32 p.val)) h) 0#32)

theorem cw1 : ∀ (i : Fin 4) (p : Fin 512), (cw (BitVec.ofNat 32 i.val) 1#32 p).toInt = (cnt 1 (512 * i.val + p.val) : ℤ) := by decide +kernel
theorem cw2 : ∀ (i : Fin 4) (p : Fin 512), (cw (BitVec.ofNat 32 i.val) 2#32 p).toInt = (cnt 2 (512 * i.val + p.val) : ℤ) := by decide +kernel
theorem cw4 : ∀ (i : Fin 4) (p : Fin 512), (cw (BitVec.ofNat 32 i.val) 4#32 p).toInt = (cnt 4 (512 * i.val + p.val) : ℤ) := by decide +kernel
theorem cw8 : ∀ (i : Fin 4) (p : Fin 512), (cw (BitVec.ofNat 32 i.val) 8#32 p).toInt = (cnt 8 (512 * i.val + p.val) : ℤ) := by decide +kernel

/-- The count as an extended real. -/
theorem sitofp_cnt (b : BitVec 32) (n : ℕ) (h : b.toInt = (n : ℤ)) : (FloatOps.sitofp (F := Ideal) .f32 b) = ((n : ℝ) : EReal) := by
  show ((b.toInt : ℝ) : EReal) = _
  rw [h, Int.cast_natCast]

/-- A tile's entry over what its group reads. -/
def tileV (acc pc wg : Fin 512 → EReal) (n sc gt : EReal) : EReal :=
  (∑ q, (acc q * Ideal.div 1 n - pc q) * wg q) * sc * (gt * Ideal.logistic gt)

section
variable (gt : FVec Ideal S512x2048 .f32) (a0 a1 a2 a3 a4 a5 a6 a7 a8 a9 a10 a11 a12 a13 a14 a15 pc : Vec Ideal S512x512 .f32) (w : BitVec 32)
  (wg : Vec Ideal S1x512x512 .bf16) (sc : Vec Ideal S1x512 .f32) (p j : Fin 512)

theorem g0 : k0_pay13 gt (k0_pay11 a0 a1) (k0_pay12 w) pc wg sc (ix2 p j)
    = tileV (fun q => a0 (ix2 p q) + a1 (ix2 p q)) (fun q => pc (ix2 p q)) (fun q => wg (ix3 0 q j)) (FloatOps.sitofp (F := Ideal) .f32 (cw w 1#32 p))
        (sc (ix2 0 j)) (gt (ix2 p ⟨j.val, by omega⟩)) := by
  pointwise [k0_pay13, k0_pay11, k0_pay12, k0_pay10]
  rfl

theorem g1 : k0_pay16 gt (k0_pay14 a0 a1 a2 a3) (k0_pay15 (k0_pay10 w)) pc wg sc (ix2 p j)
    = tileV (fun q => a0 (ix2 p q) + a1 (ix2 p q) + a2 (ix2 p q) + a3 (ix2 p q)) (fun q => pc (ix2 p q)) (fun q => wg (ix3 0 q j))
        (FloatOps.sitofp (F := Ideal) .f32 (cw w 2#32 p)) (sc (ix2 0 j)) (gt (ix2 p ⟨512 + j.val, by omega⟩)) := by
  pointwise [k0_pay16, k0_pay14, k0_pay15, k0_pay10]
  rfl

theorem g2 : k0_pay18 gt (k0_pay10 w) (k0_pay17 a0 a1 a2 a3 a4 a5) a6 a7 pc wg sc (ix2 p j)
    = tileV (fun q => a0 (ix2 p q) + a1 (ix2 p q) + a2 (ix2 p q) + a3 (ix2 p q) + a4 (ix2 p q) + a5 (ix2 p q) + a6 (ix2 p q) + a7 (ix2 p q))
        (fun q => pc (ix2 p q)) (fun q => wg (ix3 0 q j))
        (FloatOps.sitofp (F := Ideal) .f32 (cw w 4#32 p)) (sc (ix2 0 j)) (gt (ix2 p ⟨1024 + j.val, by omega⟩)) := by
  pointwise [k0_pay18, k0_pay17, k0_pay10]
  rfl

theorem g3 : k0_pay22 gt (k0_pay10 w) (k0_pay20 (k0_pay19 a0 a1) a2 a3 a4 a5 a6 a7 a8 a9 a10 a11 a12 a13 a14 a15) (k0_pay21 (k0_pay10 w)) 2048#32 pc wg sc (ix2 p j)
    = tileV (fun q => a0 (ix2 p q) + a1 (ix2 p q) + a2 (ix2 p q) + a3 (ix2 p q) + a4 (ix2 p q) + a5 (ix2 p q) + a6 (ix2 p q) + a7 (ix2 p q)
          + a8 (ix2 p q) + a9 (ix2 p q) + a10 (ix2 p q) + a11 (ix2 p q) + a12 (ix2 p q) + a13 (ix2 p q) + a14 (ix2 p q) + a15 (ix2 p q))
        (fun q => pc (ix2 p q)) (fun q => wg (ix3 0 q j))
        (FloatOps.sitofp (F := Ideal) .f32 (cw w 8#32 p)) (sc (ix2 0 j)) (gt (ix2 p ⟨1536 + j.val, by omega⟩)) := by
  pointwise [k0_pay22, k0_pay20, k0_pay19, k0_pay21, k0_pay10]
  rfl
end

/-- A tile's entry is the mixing times the activated gate. -/
theorem tile_core (P : Par) (X : Fin 2048 → Fin 1024 → EReal) (s : Fin 2048) (G : ℕ) (hG : G < 4) (acc pc wg : Fin 512 → EReal) (n sc gt : EReal) (z : Fin 512)
    (hacc : ∀ q, acc q = wsum (seqv P X ⟨512 * G + q.val, by omega⟩) (2 ^ G) s.val)
    (hpc : ∀ q, pc q = seqv P X ⟨512 * G + q.val, by omega⟩ s.val)
    (hwg : ∀ q, wg q = P.wg ⟨G, hG⟩ q z) (hn : n = ((cnt (2 ^ G) s.val : ℝ) : EReal)) (hsc : sc = P.sc ⟨512 * G + z.val, by omega⟩)
    (hgt : gt = proj P (X s) ⟨2048 + (512 * G + z.val), by omega⟩) :
    tileV acc pc wg n sc gt = mixed P X s.val ⟨512 * G + z.val, by omega⟩ * Cert.Mlp.silu (proj P (X s) ⟨2048 + (512 * G + z.val), by omega⟩) := by
  have e1 : (512 * G + z.val) / 512 = G := by omega
  have e2 : (512 * G + z.val) % 512 = z.val := by omega
  unfold tileV mixed pooled
  simp only [e1, e2, hacc, hpc, hwg, hn, hsc, hgt, mul_recip _ _ _ s.isLt (Nat.two_pow_pos G)]
  rfl

/-- A load of a tile's rows of the stored projection. -/
theorem ps_ld (P : Par) (X : Fin 2048 → Fin 1024 → EReal) (i : ℕ) (PS : Vec Ideal S528x2048 .f32)
    (hPS : ∀ e j, PS (ix2 e j) = padv (seqv P X j) (512 * i + e.val)) (o lo : ℕ) (ho : o + 512 ≤ 528) (hlo : lo + 512 ≤ 2048) (inb) (p q : Fin 512) :
    View.ld PS (Rect.unit (s := S528x2048) ![o, lo] ![512, 512] inb) (ix2 p q)
      = padv (seqv P X ⟨lo + q.val, by omega⟩) (512 * i + p.val + o) := by
  pointwise
  rw [hPS]
  congr 1
  show 512 * i + (o + p.val) = _
  omega

theorem wsum1 (f : ℕ → EReal) (s : ℕ) : wsum f (2 ^ 0) s = padv f (s + 7) + padv f (s + 8) := by
  simp [wsum, Finset.sum_range_succ]
theorem wsum2 (f : ℕ → EReal) (s : ℕ) : wsum f (2 ^ 1) s = padv f (s + 6) + padv f (s + 7) + padv f (s + 8) + padv f (s + 9) := by
  simp [wsum, Finset.sum_range_succ]
theorem wsum4 (f : ℕ → EReal) (s : ℕ) : wsum f (2 ^ 2) s = padv f (s + 4) + padv f (s + 5) + padv f (s + 6) + padv f (s + 7) + padv f (s + 8)
    + padv f (s + 9) + padv f (s + 10) + padv f (s + 11) := by
  simp [wsum, Finset.sum_range_succ]
theorem wsum8 (f : ℕ → EReal) (s : ℕ) : wsum f (2 ^ 3) s = padv f (s + 0) + padv f (s + 1) + padv f (s + 2) + padv f (s + 3) + padv f (s + 4)
    + padv f (s + 5) + padv f (s + 6) + padv f (s + 7) + padv f (s + 8) + padv f (s + 9) + padv f (s + 10) + padv f (s + 11)
    + padv f (s + 12) + padv f (s + 13) + padv f (s + 14) + padv f (s + 15) := by
  simp [wsum, Finset.sum_range_succ]

theorem padv_eight (f : ℕ → EReal) (s : ℕ) : padv f (s + 8) = f s := by
  rw [padv, if_pos (by omega), Nat.add_sub_cancel]

/-- The residual sum of a block. -/
theorem out_block (P : Par) (X : Fin 2048 → Fin 1024 → EReal) (i : ℕ) (hi : i < 4) (x : Vec Ideal S1x512x1024 .f32) (md : Vec Ideal S1x1x3072 .f32)
    (yv : Vec Ideal S512x2048 .bf16) (wo : Vec Ideal S2048x1024 .bf16)
    (hx : ∀ p k, x (ix3 0 p k) = X ⟨512 * i + p.val, by omega⟩ k)
    (hmd : ∀ k, md (ix3 0 0 k) = P.md k) (hwo : ∀ j k, wo (ix2 j k) = P.wout j k)
    (hy : ∀ (p : Fin 512) j, yv (ix2 p j) = mixed P X (512 * i + p.val) j * Cert.Mlp.silu (proj P (X ⟨512 * i + p.val, by omega⟩) ⟨2048 + j.val, by omega⟩))
    (p : Fin 512) (k : Fin 1024) :
    k0_pay1 (k0_pay23 (k0_pay2 x) (k0_pay4 md) yv wo) (ix3 0 p k) = res P X ⟨512 * i + p.val, by omega⟩ k := by
  pointwise [k0_pay1, k0_pay23, k0_pay2, k0_pay4, k0_pay3]
  simp only [hx, hmd, hwo, hy]
  rfl

end Cert.Kernel3Ideal.Pool
end
-- ==== Proof.Final3.lean ====
module

public import proofs.«01_k».proof.Proof.Entry3
public import proofs.«01_k».proof.Proof.Block3
public import Idealize.ShloMosaic.Lib.Pipeline.ReadBack

@[expose] public section

set_option maxRecDepth 16384
noncomputable section

/-! The pooling layer's result array is the layer of its arguments. -/

namespace Cert.Kernel3Ideal.Pool

open Cert.Kernel3Ideal Cert.Kernel3Ideal.Gen Idealize.ShloMosaic Idealize.ShloMosaic.TcCoe Idealize.SL.Sem
open Cert.Pool

variable (m : (ℓ : Loc nD τ sig) → Buf (Elt Ideal) ℓ) (c : Dev nD)

/-- The parameters of a batch entry, from the launch memory. -/
abbrev parM (b : Fin 32) : Par :=
  par (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b

theorem coord : ∀ t : Fin cfg0.N, ((grid0.coords t) 1).val = t.val % 4 :=
  (by decide +kernel : ∀ t : Fin grid0.N, ((grid0.coords t) 1).val = t.val % 4)

set_option maxHeartbeats 2000000 in
theorem final : (dats m 0 c).arrAt 9 cfg0.N = whole (m ((c : Thread nD τ).loc main_arg0)) (parM m c) := by
  refine (dats m 0 c).arrAt_eq_of_covers 9 _ (by decide +kernel) fun t hf y => ?_
  blk_simp
  rw [after0_9]
  unfold outsAt0
  frame_open
  simp (disch := decide) only [↓ View.readCov_skip, ↓ View.readCov_cons_toLoadRect, ↓ View.readCov_fill]
  frame_out
  have hx := blk0 m c t
  have hxp := blk1 m c t
  have hxn := blk2 m c t
  have hmd := blk3 m c t
  have hng := blk4 m c t
  have hw := blk5 m c t
  have hwg := blk6 m c t
  have hsc := blk7 m c t
  have hwo := blk8 m c t
  generalize iblk m c 0 t = x at hx ⊢
  generalize iblk m c 1 t = xp at hxp ⊢
  generalize iblk m c 2 t = xn at hxn ⊢
  generalize iblk m c 3 t = md at hmd ⊢
  generalize iblk m c 4 t = ng at hng ⊢
  generalize iblk m c 5 t = w at hw ⊢
  generalize iblk m c 6 t = wg at hwg ⊢
  generalize iblk m c 7 t = sc at hsc ⊢
  generalize iblk m c 8 t = wo at hwo ⊢
  have hb32 : t.val / 4 < 32 := by have := t_lt t; omega
  have hi : t.val % 4 < 4 := by omega
  obtain ⟨P, hP⟩ : ∃ P, parM m c ⟨t.val / 4, hb32⟩ = P := ⟨_, rfl⟩
  obtain ⟨X, hX⟩ : ∃ X : Fin 2048 → Fin 1024 → EReal, (fun s k => m ((c : Thread nD τ).loc main_arg0) (ix3 ⟨t.val / 4, hb32⟩ s k)) = X := ⟨_, rfl⟩
  have hx : ∀ p k, x (ix3 0 p k) = X ⟨512 * (t.val % 4) + p.val, by omega⟩ k := fun p k => (hx p k).trans (congrFun (congrFun hX _) k)
  have hxp : ∀ e k, xp (ix3 0 e k) = X ⟨8 * (64 * (t.val % 4) - 1) + e.val, by omega⟩ k := fun p k => (hxp p k).trans (congrFun (congrFun hX _) k)
  have hxn : ∀ e k, xn (ix3 0 e k) = X ⟨8 * min (64 * (t.val % 4) + 64) 255 + e.val, by omega⟩ k := fun p k => (hxn p k).trans (congrFun (congrFun hX _) k)
  have hmd : ∀ k, md (ix3 0 0 k) = P.md k := hP ▸ hmd
  have hng : ∀ k, ng (ix2 0 k) = P.ng k := hP ▸ hng
  have hw : ∀ k j, w (ix2 k j) = P.win k j := hP ▸ hw
  have hwg : ∀ g p q, wg (ix3 g p q) = P.wg g p q := hP ▸ hwg
  have hsc : ∀ j, sc (ix2 0 j) = P.sc j := hP ▸ hsc
  have hwo : ∀ j k, wo (ix2 j k) = P.wout j k := hP ▸ hwo
  have hhb := hb_apply P x md xp xn ng hmd hng
  have hZ := joined_eq X x xp xn (t.val % 4) hi hx hxp hxn
  generalize joined x xp xn = Z at hhb hZ
  generalize k0_pay5 x md xp xn ng = hb at hhb ⊢
  have ci := coord t
  generalize hPS : k0_pay8 hb (k0_pay6 (grid0.coords t)) k0_pay7 _ = PS
  have hPS : ∀ e j, PS (ix2 e j) = padv (seqv P X j) (512 * (t.val % 4) + e.val) := by
    intro e j
    rw [← hPS]
    exact ps_apply P X hb Z hhb (grid0.coords t) (t.val % 4) hi ci hZ _ (fun k j => by pointwise; simp only [hw] <;> (congr 1 <;> exact Fin.ext (Nat.zero_add _))) e j
  generalize hGT : k0_pay9 hb _ = GT
  have hGT : ∀ (p : Fin 512) (j : Fin 2048), GT (ix2 p j) = proj P (X ⟨512 * (t.val % 4) + p.val, by omega⟩) ⟨2048 + j.val, by omega⟩ := by
    intro p j
    rw [← hGT, gt_apply]
    unfold proj
    refine Finset.sum_congr rfl fun k _ => ?_
    rw [hhb, hZ ⟨8 + p.val, by omega⟩ (by show 8 ≤ 512 * (t.val % 4) + (8 + p.val); omega) (by show 512 * (t.val % 4) + (8 + p.val) - 8 < 2048; omega)]
    refine congrArg₂ (· * ·) (congrArg (fun s => hrow P (X s) k) (Fin.ext ?_)) ?_
    · show 512 * (t.val % 4) + (8 + p.val) - 8 = 512 * (t.val % 4) + p.val
      omega
    · pointwise
      exact hw _ _
  rw [ci]
  clear hZ hhb
  idx_vars y
  have e0 : y0 = 0 := by omega
  subst e0
  generalize hyv : (View.whole cc0_scratch1).readCov (Val := Elt Ideal) _ _ = yv
  refine (out_block P X (t.val % 4) hi x md yv wo hx hmd hwo ?hy y1 y2).trans ?fin
  case hy =>
    intro p j
    rw [← hyv, View.readCov_eq_canon']
    clear hyv
    have hs : 512 * (t.val % 4) + p.val < 2048 := by omega
    canon_tiles z h
    · idx_vars z
      have e0 : 0 + 1 * p.val = z0.val := h0
      have e1 : 0 + 1 * j.val = 1536 + z1.val := h1
      obtain rfl : p = z0 := Fin.ext (by omega)
      have hj : j = ⟨512 * 3 + z1.val, by omega⟩ := Fin.ext (by show j.val = 512 * 3 + z1.val; omega)
      rw [hj]
      refine (g3 _ _ _ _ _ _ _ _ _ _ _ _ _ _ _ _ _ _ _ _ _ p z1).trans ?_
      refine tile_core P X ⟨512 * (t.val % 4) + p.val, hs⟩ 3 (by omega) _ _ _ _ _ _ z1 ?_ ?_ ?_ ?_ ?_ ?_
      · intro q
        rw [wsum8]
        repeat' refine congrArg₂ (· + ·) ?_ ?_
        all_goals exact ps_ld P X (t.val % 4) PS hPS _ _ (by decide) (by decide) _ p q
      · intro q
        rw [ps_ld P X (t.val % 4) PS hPS _ _ (by decide) (by decide) _ p q, padv_eight]
      · intro q; pointwise; exact hwg _ _ _
      · exact sitofp_cnt _ _ (cw8 ⟨t.val % 4, hi⟩ p)
      · pointwise; exact hsc _
      · exact hGT _ _
    · idx_vars z
      have e0 : 0 + 1 * p.val = z0.val := h0
      have e1 : 0 + 1 * j.val = 1024 + z1.val := h1
      obtain rfl : p = z0 := Fin.ext (by omega)
      have hj : j = ⟨512 * 2 + z1.val, by omega⟩ := Fin.ext (by show j.val = 512 * 2 + z1.val; omega)
      rw [hj]
      refine (g2 _ _ _ _ _ _ _ _ _ _ _ _ _ p z1).trans ?_
      refine tile_core P X ⟨512 * (t.val % 4) + p.val, hs⟩ 2 (by omega) _ _ _ _ _ _ z1 ?_ ?_ ?_ ?_ ?_ ?_
      · intro q
        rw [wsum4]
        repeat' refine congrArg₂ (· + ·) ?_ ?_
        all_goals exact ps_ld P X (t.val % 4) PS hPS _ _ (by decide) (by decide) _ p q
      · intro q
        rw [ps_ld P X (t.val % 4) PS hPS _ _ (by decide) (by decide) _ p q, padv_eight]
      · intro q; pointwise; exact hwg _ _ _
      · exact sitofp_cnt _ _ (cw4 ⟨t.val % 4, hi⟩ p)
      · pointwise; exact hsc _
      · exact hGT _ _
    · idx_vars z
      have e0 : 0 + 1 * p.val = z0.val := h0
      have e1 : 0 + 1 * j.val = 512 + z1.val := h1
      obtain rfl : p = z0 := Fin.ext (by omega)
      have hj : j = ⟨512 * 1 + z1.val, by omega⟩ := Fin.ext (by show j.val = 512 * 1 + z1.val; omega)
      rw [hj]
      refine (g1 _ _ _ _ _ _ _ _ _ p z1).trans ?_
      refine tile_core P X ⟨512 * (t.val % 4) + p.val, hs⟩ 1 (by omega) _ _ _ _ _ _ z1 ?_ ?_ ?_ ?_ ?_ ?_
      · intro q
        rw [wsum2]
        repeat' refine congrArg₂ (· + ·) ?_ ?_
        all_goals exact ps_ld P X (t.val % 4) PS hPS _ _ (by decide) (by decide) _ p q
      · intro q
        rw [ps_ld P X (t.val % 4) PS hPS _ _ (by decide) (by decide) _ p q, padv_eight]
      · intro q; pointwise; exact hwg _ _ _
      · exact sitofp_cnt _ _ (cw2 ⟨t.val % 4, hi⟩ p)
      · pointwise; exact hsc _
      · exact hGT _ _
    · idx_vars z
      have e0 : 0 + 1 * p.val = z0.val := h0
      have e1 : 0 + 1 * j.val = z1.val := h1
      obtain rfl : p = z0 := Fin.ext (by omega)
      have hj : j = ⟨512 * 0 + z1.val, by omega⟩ := Fin.ext (by show j.val = 512 * 0 + z1.val; omega)
      rw [hj]
      refine (g0 _ _ _ _ _ _ _ p z1).trans ?_
      refine tile_core P X ⟨512 * (t.val % 4) + p.val, hs⟩ 0 (by omega) _ _ _ _ _ _ z1 ?_ ?_ ?_ ?_ ?_ ?_
      · intro q
        rw [wsum1]
        repeat' refine congrArg₂ (· + ·) ?_ ?_
        all_goals exact ps_ld P X (t.val % 4) PS hPS _ _ (by decide) (by decide) _ p q
      · intro q
        rw [ps_ld P X (t.val % 4) PS hPS _ _ (by decide) (by decide) _ p q, padv_eight]
      · intro q; pointwise; exact hwg _ _ _
      · exact sitofp_cnt _ _ (cw1 ⟨t.val % 4, hi⟩ p)
      · pointwise; exact hsc _
      · exact (hGT p ⟨z1.val, _⟩).trans (congrArg (proj P _) (Fin.ext (by show 2048 + z1.val = 2048 + (512 * 0 + z1.val); omega)))
  case fin =>
    have e : (win0_9.blk t).view.emb (ix3 0 y1 y2) = ix3 ⟨t.val / 4, hb32⟩ ⟨512 * (t.val % 4) + y1.val, by omega⟩ y2 := by
      blk_ext [idx9 t]
    blk_simp
    rw [e]
    show _ = res (parM m c ⟨t.val / 4, hb32⟩) (fun s k => m ((c : Thread nD τ).loc main_arg0) (ix3 ⟨t.val / 4, hb32⟩ s k)) ⟨512 * (t.val % 4) + y1.val, by omega⟩ y2
    rw [hP, hX]

end Cert.Kernel3Ideal.Pool
end
-- ==== Proof.Window.lean ====
module

public import proofs.«01_k».proof.Proof.Pool
public import proofs.«01_k».proof.Proof.Gen.Reference3Ideal.Read

@[expose] public section

set_option maxRecDepth 16384
noncomputable section

/-! The reference's running sums and the two positions it reads them at. -/

namespace Cert.Reference3Ideal.Pool

open Cert.Reference3Ideal Cert.Reference3Ideal.Gen Cert.Reference3Ideal.Read Idealize.ShloMosaic Idealize.ShloMosaic.TcCoe Cert.Pool

/-- A sequence of 2048 numbers followed by zeros. -/
def ext (f : Fin 2048 → EReal) (n : ℕ) : EReal := if h : n < 2048 then f ⟨n, h⟩ else 0

theorem foldl_sum {ι : Type} (f : EReal → ι → EReal) (g : ι → EReal) (hf : ∀ r i, f r i = r + g i) (l : List ι) (v : EReal) :
    l.foldl f v = v + (l.map g).sum := by
  induction l generalizing v with
  | nil => simp
  | cons a l ih => rw [List.foldl_cons, ih, hf, List.map_cons, List.sum_cons, add_assoc]

/-- The window's positions. -/
abbrev W : Shape := ⟨3, ![1, 2048, 1]⟩

theorem window_pos (n : Fin W.numel) (hn : n.val < 2048) : W.rowMajor.symm n = ix3 (0 : Fin 1) (⟨n.val, hn⟩ : Fin 2048) (0 : Fin 1) :=
  W.rowMajor.symm_apply_eq.2 (Fin.ext (by
    rw [Shape.rowMajor_val_three]
    show n.val = (0 * 2048 + n.val) * 1 + 0
    omega))

/-- A sum of 2048 terms of which only the last ones, those from `2047 - s` on, count. -/
theorem tail_sum (F : ℕ → EReal) (s : ℕ) (hs : s < 2048) :
    ∑ k ∈ Finset.range 2048, (if 2047 ≤ s + k then F (s + k - 2047) else 0) = ∑ k ∈ Finset.range (s + 1), F k := by
  have e : 2048 = (2047 - s) + (s + 1) := by omega
  rw [e, Finset.sum_range_add, Finset.sum_eq_zero, zero_add]
  · refine Finset.sum_congr rfl fun k _ => ?_
    rw [if_pos (by omega)]
    congr 1
    omega
  · intro k hk
    rw [if_neg (by have := Finset.mem_range.1 hk; omega)]

theorem cumsum_at (x : FVec Ideal S32x2048x512 .f32) (v : FVec Ideal S_ .f32) (hv : ∀ i, v i = 0) (b : Fin 32) (s : Fin 2048) (c : Fin 512) :
    Host.reduceWindowAdd ![1, 2048, 1] ![1, 1, 1] ![0, 2047, 0] ![0, 0, 0] x v
        reduceWindows_S32x2048x512_S32x2048x512_w1s1p0_0_w2048s1p2047_0_w1s1p0_0 h_S_ (ix3 b s c)
      = ∑ k ∈ Finset.range (s.val + 1), ext (fun n => x (ix3 b n c)) k := by
  show Ideal.hostReduceWindowAdd ![1, 2048, 1] ![1, 1, 1] ![0, 2047, 0] ![0, 0, 0]
    reduceWindows_S32x2048x512_S32x2048x512_w1s1p0_0_w2048s1p2047_0_w1s1p0_0 x (v (Shape.Idx.first h_S_)) (ix3 b s c) = _
  rw [hv]
  have hN : W.numel = 2048 := by decide
  unfold Ideal.hostReduceWindowAdd Host.reduceWindow
  refine (foldl_sum _ (fun n => if 2047 ≤ s.val + n.val then ext (fun n => x (ix3 b n c)) (s.val + n.val - 2047) else 0) (fun r n => ?_) _ _).trans ?_
  · have hn : n.val < 2048 := n.isLt.trans_eq hN
    have hp := window_pos n hn
    have w0 : (W.rowMajor.symm n 0).val = 0 := by rw [hp]; rfl
    have w1 : (W.rowMajor.symm n 1).val = n.val := by rw [hp]; rfl
    have w2 : (W.rowMajor.symm n 2).val = 0 := by rw [hp]; rfl
    dsimp only
    refine congrArg (r + ·) ?_
    split
    · next hin =>
      have h1 : 2047 ≤ s.val * 1 + (W.rowMajor.symm n 1).val := (hin 1).1
      rw [w1] at h1
      rw [if_pos (by omega), ext, dif_pos (by omega)]
      refine congrArg x (funext fun a => Fin.ext ?_)
      match a with
      | ⟨0, _⟩ =>
        show b.val * 1 + (W.rowMajor.symm n 0).val - 0 = b.val
        rw [w0]
        omega
      | ⟨1, _⟩ =>
        show s.val * 1 + (W.rowMajor.symm n 1).val - 2047 = s.val + n.val - 2047
        rw [w1, Nat.mul_one]
      | ⟨2, _⟩ =>
        show c.val * 1 + (W.rowMajor.symm n 2).val - 0 = c.val
        rw [w2]
        omega
    · next hin =>
      refine (if_neg fun hle => hin fun a => ?_).symm
      match a with
      | ⟨0, _⟩ =>
        show 0 ≤ b.val * 1 + (W.rowMajor.symm n 0).val ∧ b.val * 1 + (W.rowMajor.symm n 0).val - 0 < 32
        rw [w0]
        omega
      | ⟨1, _⟩ =>
        show 2047 ≤ s.val * 1 + (W.rowMajor.symm n 1).val ∧ s.val * 1 + (W.rowMajor.symm n 1).val - 2047 < 2048
        rw [w1]
        omega
      | ⟨2, _⟩ =>
        show 0 ≤ c.val * 1 + (W.rowMajor.symm n 2).val ∧ c.val * 1 + (W.rowMajor.symm n 2).val - 0 < 512
        rw [w2]
        omega
  · rw [zero_add, ← Fin.sum_univ_def, ← tail_sum _ s.val s.isLt,
      Fin.sum_univ_eq_sum_range (fun k => if 2047 ≤ s.val + k then ext (fun n => x (ix3 b n c)) (s.val + k - 2047) else 0)]
    exact congrArg (fun N => ∑ k ∈ Finset.range N, if 2047 ≤ s.val + k then ext (fun n => x (ix3 b n c)) (s.val + k - 2047) else 0) hN

/-- The running sums with a zero in front: position `n` holds the sum of the first `n`. -/
theorem prefix_at (z : FVec Ideal S32x1x512 .f32) (hz : ∀ i, z i = 0) (x : FVec Ideal S32x2048x512 .f32) (v : FVec Ideal S_ .f32) (hv : ∀ i, v i = 0)
    (b : Fin 32) (n : Fin 2049) (c : Fin 512) :
    concatenate S32x2049x512 1 [⟨S32x1x512, z⟩, ⟨S32x2048x512, Host.reduceWindowAdd ![1, 2048, 1] ![1, 1, 1] ![0, 2047, 0] ![0, 0, 0] x v
        reduceWindows_S32x2048x512_S32x2048x512_w1s1p0_0_w2048s1p2047_0_w1s1p0_0 h_S_⟩] concatenates_S32x1x512_S32x2048x512_S32x2049x512_d1 (ix3 b n c)
      = ∑ k ∈ Finset.range n.val, ext (fun n => x (ix3 b n c)) k := by
  have h := cumsum_at x v hv b
  generalize Host.reduceWindowAdd ![1, 2048, 1] ![1, 1, 1] ![0, 2047, 0] ![0, 0, 0] x v
        reduceWindows_S32x2048x512_S32x2048x512_w1s1p0_0_w2048s1p2047_0_w1s1p0_0 h_S_ = y at h ⊢
  pointwise
  by_cases hn : n.val < 1
  · have h0 : n.val = 0 := by omega
    rw [dif_pos hn, hz, h0]
    rfl
  · rw [dif_neg hn, h]
    have e : n.val - 1 + 1 = n.val := by omega
    exact congrArg (fun m => ∑ k ∈ Finset.range m, ext (fun n => x (ix3 b n c)) k) e

theorem siIdx_at (b : Fin 32) (s : Fin 2048) (c : Fin 512) (k : Fin gather_S32x2049x512_S2048x1_S32x2048x512_02_1_n_n_1_1_321512.startIndexMap.length) :
    gather_S32x2049x512_S2048x1_S32x2048x512_02_1_n_n_1_1_321512.siIdx (ix3 b s c) k = ix2 s 0 := by
  have hk : k = ⟨0, by decide⟩ := Fin.ext (by have : k.val < 1 := k.isLt; show k.val = 0; omega)
  rw [hk]
  funext a
  refine Fin.ext ?_
  match a with
  | ⟨0, _⟩ => rfl
  | ⟨1, _⟩ => rfl

theorem gather_at (y : FVec Ideal S32x2049x512 .f32) (idx : IVec S2048x1 32) (b : Fin 32) (s : Fin 2048) (c : Fin 512) (n : Fin 2049)
    (hn : idx (ix2 s 0) = BitVec.ofNat 32 n.val) :
    Host.gather gather_S32x2049x512_S2048x1_S32x2048x512_02_1_n_n_1_1_321512 y idx (ix3 b s c) = y (ix3 b n c) := by
  have hi : (idx (ix2 s 0)).toInt.toNat = n.val := by
    have := n.isLt
    rw [hn, BitVec.toInt_eq_toNat_of_lt (by rw [BitVec.toNat_ofNat]; omega), BitVec.toNat_ofNat, Nat.mod_eq_of_lt (by omega)]
    rfl
  unfold Host.gather
  congr 1
  funext a
  refine Fin.ext ?_
  show GatherDims.start _ (ix3 b s c) idx a + GatherDims.batchCoord _ (ix3 b s c) a + GatherDims.offCoord _ (ix3 b s c) a = _
  rw [GatherDims.batchCoord_eq_zero _ _ _ List.not_mem_nil]
  match a with
  | ⟨0, _⟩ =>
    unfold GatherDims.start GatherDims.offCoord
    rw [dif_neg (by decide +revert), dif_pos (by decide +revert)]
    exact Nat.zero_add _
  | ⟨1, _⟩ =>
    rw [GatherDims.offCoord_eq_zero _ _ _ (by decide +revert)]
    unfold GatherDims.start
    rw [dif_pos (by decide +revert)]
    show min (idx (GatherDims.siIdx _ (ix3 b s c) _)).toInt.toNat _ + 0 + 0 = n.val
    rw [siIdx_at, hi]
    exact Nat.min_eq_left (Nat.le_of_lt_succ n.isLt)
  | ⟨2, _⟩ =>
    unfold GatherDims.start GatherDims.offCoord
    rw [dif_neg (by decide +revert), dif_pos (by decide +revert)]
    exact Nat.zero_add _

/-- The difference of the running sums at the window's two ends is the window's sum. -/
theorem diff_at (z : FVec Ideal S32x1x512 .f32) (hz : ∀ i, z i = 0) (x : FVec Ideal S32x2048x512 .f32) (v : FVec Ideal S_ .f32) (hv : ∀ i, v i = 0)
    (hi lo : IVec S2048x1 32) (b : Fin 32) (s : Fin 2048) (c : Fin 512) (h : ℕ) (hh : h ≤ 8)
    (hhi : hi (ix2 s 0) = BitVec.ofNat 32 (min (s.val + h) 2048)) (hlo : lo (ix2 s 0) = BitVec.ofNat 32 (s.val - h))
    (hr : ∀ n, ∃ r : ℝ, ext (fun n => x (ix3 b n c)) n = (r : EReal)) :
    Host.gather gather_S32x2049x512_S2048x1_S32x2048x512_02_1_n_n_1_1_321512
        (concatenate S32x2049x512 1 [⟨S32x1x512, z⟩, ⟨S32x2048x512, Host.reduceWindowAdd ![1, 2048, 1] ![1, 1, 1] ![0, 2047, 0] ![0, 0, 0] x v
          reduceWindows_S32x2048x512_S32x2048x512_w1s1p0_0_w2048s1p2047_0_w1s1p0_0 h_S_⟩] concatenates_S32x1x512_S32x2048x512_S32x2049x512_d1) hi (ix3 b s c)
      - Host.gather gather_S32x2049x512_S2048x1_S32x2048x512_02_1_n_n_1_1_321512
        (concatenate S32x2049x512 1 [⟨S32x1x512, z⟩, ⟨S32x2048x512, Host.reduceWindowAdd ![1, 2048, 1] ![1, 1, 1] ![0, 2047, 0] ![0, 0, 0] x v
          reduceWindows_S32x2048x512_S32x2048x512_w1s1p0_0_w2048s1p2047_0_w1s1p0_0 h_S_⟩] concatenates_S32x1x512_S32x2048x512_S32x2049x512_d1) lo (ix3 b s c)
      = wsum (ext fun n => x (ix3 b n c)) h s.val := by
  rw [gather_at _ hi b s c ⟨min (s.val + h) 2048, by omega⟩ hhi, gather_at _ lo b s c ⟨s.val - h, by omega⟩ hlo,
    prefix_at z hz x v hv, prefix_at z hz x v hv]
  exact prefix_sub _ (fun n hn => by rw [ext, dif_neg (by omega)]) hr h s.val hh

end Cert.Reference3Ideal.Pool

end
-- ==== Proof.Words.lean ====
module

public import proofs.«01_k».proof.Proof.Pool
public import proofs.«01_k».proof.Proof.Gen.Reference3Ideal.Read

@[expose] public section

set_option maxRecDepth 16384
noncomputable section

/-! The two ends of a window as the reference's index words, and their distance. -/

namespace Cert.Reference3Ideal.Pool

open Cert.Reference3Ideal Cert.Reference3Ideal.Gen Cert.Reference3Ideal.Read Idealize.ShloMosaic Idealize.ShloMosaic.TcCoe Cert.Pool

theorem hi0 : ∀ s : Fin 2048, val_main_v48 (F := Ideal) (ix2 s 0) = BitVec.ofNat 32 (min (s.val + 1) 2048) := by decide +kernel

theorem lo0 : ∀ s : Fin 2048, val_main_v55 (F := Ideal) (ix2 s 0) = BitVec.ofNat 32 (s.val - 1) := by decide +kernel

theorem ct0 : ∀ s : Fin 2048, (val_main_v41 (F := Ideal) (ix1 s)).toInt = (cnt 1 s.val : ℤ) := by decide +kernel

theorem hi1 : ∀ s : Fin 2048, val_main_v79 (F := Ideal) (ix2 s 0) = BitVec.ofNat 32 (min (s.val + 2) 2048) := by decide +kernel

theorem lo1 : ∀ s : Fin 2048, val_main_v86 (F := Ideal) (ix2 s 0) = BitVec.ofNat 32 (s.val - 2) := by decide +kernel

theorem ct1 : ∀ s : Fin 2048, (val_main_v72 (F := Ideal) (ix1 s)).toInt = (cnt 2 s.val : ℤ) := by decide +kernel

theorem hi2 : ∀ s : Fin 2048, val_main_v110 (F := Ideal) (ix2 s 0) = BitVec.ofNat 32 (min (s.val + 4) 2048) := by decide +kernel

theorem lo2 : ∀ s : Fin 2048, val_main_v117 (F := Ideal) (ix2 s 0) = BitVec.ofNat 32 (s.val - 4) := by decide +kernel

theorem ct2 : ∀ s : Fin 2048, (val_main_v103 (F := Ideal) (ix1 s)).toInt = (cnt 4 s.val : ℤ) := by decide +kernel

theorem hi3 : ∀ s : Fin 2048, val_main_v141 (F := Ideal) (ix2 s 0) = BitVec.ofNat 32 (min (s.val + 8) 2048) := by decide +kernel

theorem lo3 : ∀ s : Fin 2048, val_main_v148 (F := Ideal) (ix2 s 0) = BitVec.ofNat 32 (s.val - 8) := by decide +kernel

theorem ct3 : ∀ s : Fin 2048, (val_main_v134 (F := Ideal) (ix1 s)).toInt = (cnt 8 s.val : ℤ) := by decide +kernel

end Cert.Reference3Ideal.Pool

end
-- ==== Proof.Ref3.lean ====
module

public import proofs.«01_k».proof.Proof.Entry3
public import proofs.«01_k».proof.Proof.Window
public import proofs.«01_k».proof.Proof.Words

@[expose] public section

set_option maxRecDepth 16384
noncomputable section

/-! The reference's pooling layer is the layer of its arguments, where the parameters are real numbers. -/

namespace Cert.Reference3Ideal.Pool

open Cert.Reference3Ideal Cert.Reference3Ideal.Gen Cert.Reference3Ideal.Read Idealize.ShloMosaic Idealize.ShloMosaic.TcCoe
open Cert.Mlp (silu)
open Cert.Pool
open Cert.Kernel3Ideal.Pool (par whole)

variable (x0 : S32x2048x1024.Idx → EReal) (x1 : S32x3072.Idx → EReal) (x2 : S1024.Idx → EReal) (x3 : S1024x4096.Idx → EReal)
  (x4 : S4x512x512.Idx → EReal) (x5 : S2048.Idx → EReal) (x6 : S2048x1024.Idx → EReal)

/-- A batch entry's tokens. -/
abbrev rows (b : Fin 32) : Fin 2048 → Fin 1024 → EReal := fun s k => x0 (ix3 b s k)

theorem h23 (b : Fin 32) (s : Fin 2048) (k : Fin 1024) :
    val_main_v23 (F := Ideal) x0 x1 x2 (ix3 b s k) = hrow (par x1 x2 x3 x4 x5 x6 b) ((rows x0 b) s) k := by
  pointwise [val_main_v0, val_main_v1, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2]
  rfl

theorem h24 (b : Fin 32) (s : Fin 2048) (j : Fin 4096) :
    val_main_v24 (F := Ideal) x0 x1 x2 x3 (ix3 b s j) = proj (par x1 x2 x3 x4 x5 x6 b) ((rows x0 b) s) j := by
  have h := h23 x0 x1 x2 x3 x4 x5 x6 b s
  unfold val_main_v24
  generalize val_main_v23 (F := Ideal) x0 x1 x2 = hb at h ⊢
  pointwise
  simp only [h]
  rfl

/-- The gate. -/
theorem h166 (b : Fin 32) (s : Fin 2048) (j : Fin 2048) :
    val_main_v166 (F := Ideal) x0 x1 x2 x3 (ix3 b s j) = silu (proj (par x1 x2 x3 x4 x5 x6 b) ((rows x0 b) s) ⟨2048 + j.val, by omega⟩) := by
  have h := h24 x0 x1 x2 x3 x4 x5 x6 b s
  unfold val_main_v166 val_main_call12_v5 val_main_call12_v4 val_main_call12_v3 val_main_call12_v2 val_main_call12_v1 val_main_call12_v0
  unfold val_main_v26
  generalize val_main_v24 (F := Ideal) x0 x1 x2 x3 = hb at h ⊢
  pointwise [val_main_call12_cst, val_main_call12_cst_0]
  simp only [h]
  rfl

theorem ext_seqv (P : Par) (X : Fin 2048 → Fin 1024 → EReal) (j : Fin 2048) (f : Fin 2048 → EReal)
    (h : ∀ s, f s = proj P (X s) ⟨j.val, by omega⟩) : ext f = seqv P X j := by
  funext n
  unfold ext seqv
  split
  · exact h _
  · rfl

theorem seqv_at (P : Par) (X : Fin 2048 → Fin 1024 → EReal) (j s : Fin 2048) : seqv P X j s.val = proj P (X s) ⟨j.val, by omega⟩ := by
  rw [seqv, dif_pos s.isLt]

theorem group0 (b : Fin 32) (s : Fin 2048) (q : Fin 512) :
    val_main_v27 (F := Ideal) x0 x1 x2 x3 (ix3 b s q) = proj (par x1 x2 x3 x4 x5 x6 b) ((rows x0 b) s) ⟨512 * 0 + q.val, by omega⟩ := by
  have h := h24 x0 x1 x2 x3 x4 x5 x6 b s
  unfold val_main_v27 val_main_v25
  generalize val_main_v24 (F := Ideal) x0 x1 x2 x3 = hb at h ⊢
  pointwise
  simp only [h] <;> simp only [Nat.mul_zero, Nat.zero_add]

theorem group1 (b : Fin 32) (s : Fin 2048) (q : Fin 512) :
    val_main_v28 (F := Ideal) x0 x1 x2 x3 (ix3 b s q) = proj (par x1 x2 x3 x4 x5 x6 b) ((rows x0 b) s) ⟨512 * 1 + q.val, by omega⟩ := by
  have h := h24 x0 x1 x2 x3 x4 x5 x6 b s
  unfold val_main_v28 val_main_v25
  generalize val_main_v24 (F := Ideal) x0 x1 x2 x3 = hb at h ⊢
  pointwise
  simp only [h]

theorem group2 (b : Fin 32) (s : Fin 2048) (q : Fin 512) :
    val_main_v29 (F := Ideal) x0 x1 x2 x3 (ix3 b s q) = proj (par x1 x2 x3 x4 x5 x6 b) ((rows x0 b) s) ⟨512 * 2 + q.val, by omega⟩ := by
  have h := h24 x0 x1 x2 x3 x4 x5 x6 b s
  unfold val_main_v29 val_main_v25
  generalize val_main_v24 (F := Ideal) x0 x1 x2 x3 = hb at h ⊢
  pointwise
  simp only [h]

theorem group3 (b : Fin 32) (s : Fin 2048) (q : Fin 512) :
    val_main_v30 (F := Ideal) x0 x1 x2 x3 (ix3 b s q) = proj (par x1 x2 x3 x4 x5 x6 b) ((rows x0 b) s) ⟨512 * 3 + q.val, by omega⟩ := by
  have h := h24 x0 x1 x2 x3 x4 x5 x6 b s
  unfold val_main_v30 val_main_v25
  generalize val_main_v24 (F := Ideal) x0 x1 x2 x3 = hb at h ⊢
  pointwise
  simp only [h]

/-- The parameters the projection reads are real numbers. -/
structure Reals : Prop where
  r1 : ∀ i, Real' (x1 i)
  r2 : ∀ i, Real' (x2 i)
  r3 : ∀ i, Real' (x3 i)

variable (H : Reals x1 x2 x3)
include H

theorem pooled0 (b : Fin 32) (s : Fin 2048) (q : Fin 512) :
    val_main_v61 (F := Ideal) x0 x1 x2 x3 (ix3 b s q) = pooled (par x1 x2 x3 x4 x5 x6 b) (rows x0 b) 1 ⟨512 * 0 + q.val, by omega⟩ s.val := by
  have hx := group0 x0 x1 x2 x3 x4 x5 x6 b
  have e := ext_seqv (par x1 x2 x3 x4 x5 x6 b) (rows x0 b) ⟨512 * 0 + q.val, by omega⟩ (fun n => val_main_v27 (F := Ideal) x0 x1 x2 x3 (ix3 b n q)) (fun n => hx n q)
  have hd : val_main_v57 (F := Ideal) x0 x1 x2 x3 (ix3 b s q) = wsum (seqv (par x1 x2 x3 x4 x5 x6 b) (rows x0 b) ⟨512 * 0 + q.val, by omega⟩) 1 s.val := by
    rw [← e]
    refine diff_at (val_main_v31 (F := Ideal)) (fun i => ?_) _ (val_main_call0_call0_v0 (F := Ideal)) (fun i => ?_) _ _ b s q 1 (by decide)
      (hi0 s) (lo0 s) (fun n => ?_)
    · change Ideal.ofBits .f32 0x00000000#32 = 0
      exact Ideal.ofBits_zero .f32
    · change Ideal.ofBits .f32 0x00000000#32 = 0
      exact Ideal.ofBits_zero .f32
    · rw [e]
      exact seqv_real _ _ (fun _ => H.r1 _) (fun _ => H.r2 _) (fun _ _ => H.r3 _) _ n
  have hc : val_main_v42 (F := Ideal) (ix1 s) = ((cnt 1 s.val : ℝ) : EReal) := by
    show (((val_main_v41 (F := Ideal) (ix1 s)).toInt : ℝ) : EReal) = _
    rw [ct0]
    exact congrArg _ (Int.cast_natCast _)
  unfold val_main_v61 val_main_v60 val_main_v59 val_main_v58
  generalize val_main_v57 (F := Ideal) x0 x1 x2 x3 = a at hd ⊢
  generalize val_main_v42 (F := Ideal) = n at hc ⊢
  generalize val_main_v27 (F := Ideal) x0 x1 x2 x3 = x at hx ⊢
  pointwise
  simp only [hd, hc, hx]
  unfold pooled
  rw [seqv_at]
  simp only [Nat.mul_zero, Nat.zero_add]

theorem pooled1 (b : Fin 32) (s : Fin 2048) (q : Fin 512) :
    val_main_v92 (F := Ideal) x0 x1 x2 x3 (ix3 b s q) = pooled (par x1 x2 x3 x4 x5 x6 b) (rows x0 b) 2 ⟨512 * 1 + q.val, by omega⟩ s.val := by
  have hx := group1 x0 x1 x2 x3 x4 x5 x6 b
  have e := ext_seqv (par x1 x2 x3 x4 x5 x6 b) (rows x0 b) ⟨512 * 1 + q.val, by omega⟩ (fun n => val_main_v28 (F := Ideal) x0 x1 x2 x3 (ix3 b n q)) (fun n => hx n q)
  have hd : val_main_v88 (F := Ideal) x0 x1 x2 x3 (ix3 b s q) = wsum (seqv (par x1 x2 x3 x4 x5 x6 b) (rows x0 b) ⟨512 * 1 + q.val, by omega⟩) 2 s.val := by
    rw [← e]
    refine diff_at (val_main_v62 (F := Ideal)) (fun i => ?_) _ (val_main_call3_call0_v0 (F := Ideal)) (fun i => ?_) _ _ b s q 2 (by decide)
      (hi1 s) (lo1 s) (fun n => ?_)
    · change Ideal.ofBits .f32 0x00000000#32 = 0
      exact Ideal.ofBits_zero .f32
    · change Ideal.ofBits .f32 0x00000000#32 = 0
      exact Ideal.ofBits_zero .f32
    · rw [e]
      exact seqv_real _ _ (fun _ => H.r1 _) (fun _ => H.r2 _) (fun _ _ => H.r3 _) _ n
  have hc : val_main_v73 (F := Ideal) (ix1 s) = ((cnt 2 s.val : ℝ) : EReal) := by
    show (((val_main_v72 (F := Ideal) (ix1 s)).toInt : ℝ) : EReal) = _
    rw [ct1]
    exact congrArg _ (Int.cast_natCast _)
  unfold val_main_v92 val_main_v91 val_main_v90 val_main_v89
  generalize val_main_v88 (F := Ideal) x0 x1 x2 x3 = a at hd ⊢
  generalize val_main_v73 (F := Ideal) = n at hc ⊢
  generalize val_main_v28 (F := Ideal) x0 x1 x2 x3 = x at hx ⊢
  pointwise
  simp only [hd, hc, hx]
  unfold pooled
  rw [seqv_at]

theorem pooled2 (b : Fin 32) (s : Fin 2048) (q : Fin 512) :
    val_main_v123 (F := Ideal) x0 x1 x2 x3 (ix3 b s q) = pooled (par x1 x2 x3 x4 x5 x6 b) (rows x0 b) 4 ⟨512 * 2 + q.val, by omega⟩ s.val := by
  have hx := group2 x0 x1 x2 x3 x4 x5 x6 b
  have e := ext_seqv (par x1 x2 x3 x4 x5 x6 b) (rows x0 b) ⟨512 * 2 + q.val, by omega⟩ (fun n => val_main_v29 (F := Ideal) x0 x1 x2 x3 (ix3 b n q)) (fun n => hx n q)
  have hd : val_main_v119 (F := Ideal) x0 x1 x2 x3 (ix3 b s q) = wsum (seqv (par x1 x2 x3 x4 x5 x6 b) (rows x0 b) ⟨512 * 2 + q.val, by omega⟩) 4 s.val := by
    rw [← e]
    refine diff_at (val_main_v93 (F := Ideal)) (fun i => ?_) _ (val_main_call6_call0_v0 (F := Ideal)) (fun i => ?_) _ _ b s q 4 (by decide)
      (hi2 s) (lo2 s) (fun n => ?_)
    · change Ideal.ofBits .f32 0x00000000#32 = 0
      exact Ideal.ofBits_zero .f32
    · change Ideal.ofBits .f32 0x00000000#32 = 0
      exact Ideal.ofBits_zero .f32
    · rw [e]
      exact seqv_real _ _ (fun _ => H.r1 _) (fun _ => H.r2 _) (fun _ _ => H.r3 _) _ n
  have hc : val_main_v104 (F := Ideal) (ix1 s) = ((cnt 4 s.val : ℝ) : EReal) := by
    show (((val_main_v103 (F := Ideal) (ix1 s)).toInt : ℝ) : EReal) = _
    rw [ct2]
    exact congrArg _ (Int.cast_natCast _)
  unfold val_main_v123 val_main_v122 val_main_v121 val_main_v120
  generalize val_main_v119 (F := Ideal) x0 x1 x2 x3 = a at hd ⊢
  generalize val_main_v104 (F := Ideal) = n at hc ⊢
  generalize val_main_v29 (F := Ideal) x0 x1 x2 x3 = x at hx ⊢
  pointwise
  simp only [hd, hc, hx]
  unfold pooled
  rw [seqv_at]

theorem pooled3 (b : Fin 32) (s : Fin 2048) (q : Fin 512) :
    val_main_v154 (F := Ideal) x0 x1 x2 x3 (ix3 b s q) = pooled (par x1 x2 x3 x4 x5 x6 b) (rows x0 b) 8 ⟨512 * 3 + q.val, by omega⟩ s.val := by
  have hx := group3 x0 x1 x2 x3 x4 x5 x6 b
  have e := ext_seqv (par x1 x2 x3 x4 x5 x6 b) (rows x0 b) ⟨512 * 3 + q.val, by omega⟩ (fun n => val_main_v30 (F := Ideal) x0 x1 x2 x3 (ix3 b n q)) (fun n => hx n q)
  have hd : val_main_v150 (F := Ideal) x0 x1 x2 x3 (ix3 b s q) = wsum (seqv (par x1 x2 x3 x4 x5 x6 b) (rows x0 b) ⟨512 * 3 + q.val, by omega⟩) 8 s.val := by
    rw [← e]
    refine diff_at (val_main_v124 (F := Ideal)) (fun i => ?_) _ (val_main_call9_call0_v0 (F := Ideal)) (fun i => ?_) _ _ b s q 8 (by decide)
      (hi3 s) (lo3 s) (fun n => ?_)
    · change Ideal.ofBits .f32 0x00000000#32 = 0
      exact Ideal.ofBits_zero .f32
    · change Ideal.ofBits .f32 0x00000000#32 = 0
      exact Ideal.ofBits_zero .f32
    · rw [e]
      exact seqv_real _ _ (fun _ => H.r1 _) (fun _ => H.r2 _) (fun _ _ => H.r3 _) _ n
  have hc : val_main_v135 (F := Ideal) (ix1 s) = ((cnt 8 s.val : ℝ) : EReal) := by
    show (((val_main_v134 (F := Ideal) (ix1 s)).toInt : ℝ) : EReal) = _
    rw [ct3]
    exact congrArg _ (Int.cast_natCast _)
  unfold val_main_v154 val_main_v153 val_main_v152 val_main_v151
  generalize val_main_v150 (F := Ideal) x0 x1 x2 x3 = a at hd ⊢
  generalize val_main_v135 (F := Ideal) = n at hc ⊢
  generalize val_main_v30 (F := Ideal) x0 x1 x2 x3 = x at hx ⊢
  pointwise
  simp only [hd, hc, hx]
  unfold pooled
  rw [seqv_at]

/-- The four groups side by side. -/
theorem h159 (b : Fin 32) (s : Fin 2048) (g : Fin 4) (q : Fin 512) :
    val_main_v159 (F := Ideal) x0 x1 x2 x3 (ix4 b s g q) = pooled (par x1 x2 x3 x4 x5 x6 b) (rows x0 b) (2 ^ g.val) ⟨512 * g.val + q.val, by omega⟩ s.val := by
  have p0 := pooled0 x0 x1 x2 x3 x4 x5 x6 H b s q
  have p1 := pooled1 x0 x1 x2 x3 x4 x5 x6 H b s q
  have p2 := pooled2 x0 x1 x2 x3 x4 x5 x6 H b s q
  have p3 := pooled3 x0 x1 x2 x3 x4 x5 x6 H b s q
  unfold val_main_v159 val_main_v158 val_main_v157 val_main_v156 val_main_v155
  generalize val_main_v61 (F := Ideal) x0 x1 x2 x3 = c0 at p0 ⊢
  generalize val_main_v92 (F := Ideal) x0 x1 x2 x3 = c1 at p1 ⊢
  generalize val_main_v123 (F := Ideal) x0 x1 x2 x3 = c2 at p2 ⊢
  generalize val_main_v154 (F := Ideal) x0 x1 x2 x3 = c3 at p3 ⊢
  pointwise
  match g with
  | ⟨0, _⟩ => exact p0
  | ⟨1, _⟩ => exact p1
  | ⟨2, _⟩ => exact p2
  | ⟨3, _⟩ => exact p3

theorem h165 (b : Fin 32) (s : Fin 2048) (j : Fin 2048) :
    val_main_v165 (F := Ideal) x0 x1 x2 x3 x4 x5 (ix3 b s j) = mixed (par x1 x2 x3 x4 x5 x6 b) (rows x0 b) s.val j := by
  have h := h159 x0 x1 x2 x3 x4 x5 x6 H b s
  unfold val_main_v165 val_main_v164 val_main_v163 val_main_v162 val_main_v161 val_main_v160
  generalize val_main_v159 (F := Ideal) x0 x1 x2 x3 = hb at h ⊢
  pointwise
  simp only [h]
  unfold mixed
  refine congrArg (· * _) (Finset.sum_congr rfl fun q _ => ?_)
  exact mul_comm _ _

/-- The reference's result. -/
theorem h172 : val_main_v172 (F := Ideal) x0 x1 x2 x3 x4 x5 x6 = whole x0 (par x1 x2 x3 x4 x5 x6) := by
  funext y
  idx_vars y
  have h := h165 x0 x1 x2 x3 x4 x5 x6 H y0 y1
  have h' := h166 x0 x1 x2 x3 x4 x5 x6 y0 y1
  unfold val_main_v172 val_main_v171 val_main_v170 val_main_v169 val_main_v168 val_main_v167 val_main_v2
  generalize val_main_v165 (F := Ideal) x0 x1 x2 x3 x4 x5 = a at h ⊢
  generalize val_main_v166 (F := Ideal) x0 x1 x2 x3 = g at h' ⊢
  pointwise
  simp only [h, h']
  rfl

end Cert.Reference3Ideal.Pool

end
-- ==== Proof.Finite.lean ====
module

public import proofs.«01_k».proof.Proof.Gen.Pre_finite
public import proofs.«01_k».proof.Proof.Pool
public import Idealize.ShloMosaic.Lib.ReduceAll
public import Idealize.ShloMosaic.Lib.Affine
public import Idealize.ShloMosaic.Lib.Decide

@[expose] public section

set_option maxRecDepth 16384
noncomputable section

/-! What the precondition says: the entries it speaks of are real numbers. -/

namespace Cert.Pre_finite

open Cert.Pre_finite.Gen Idealize.ShloMosaic Idealize.ShloMosaic.TcCoe Cert.Pool

theorem inf_top : Ideal.ofBits .f32 0x7F800000#32 = ⊤ := by
  simp [Ideal.ofBits, Ideal.ieee]

/-- A number whose size is below infinity is real. -/
theorem real_of_lt (x : EReal) (h : Ideal.cmp .olt (max x (-x)) (Ideal.ofBits .f32 0x7F800000#32) = 1#1) : Real' x := by
  rw [inf_top] at h
  have hl : max x (-x) < ⊤ := by
    by_contra hn
    have h' : BitVec.ofBool (decide (max x (-x) < ⊤)) = 1#1 := h
    rw [decide_eq_false hn] at h'
    exact absurd h' (by decide)
  induction x using EReal.rec with
  | bot => exact absurd hl (by simp)
  | coe r => exact ⟨r, rfl⟩
  | top => exact absurd hl (by simp)

theorem reals (x0 : FVec Ideal S32x2048x1024 .f32) (x1 : FVec Ideal S32x3072 .f32) (x2 : FVec Ideal S1024 .f32) (x3 : FVec Ideal S1024x4096 .f32)
    (x4 : FVec Ideal S4x512x512 .f32) (x5 : FVec Ideal S2048 .f32) (x6 : FVec Ideal S2048x1024 .f32)
    (h : fn (F := Ideal) x0 x1 x2 x3 x4 x5 x6 = fun _ => 1#1) :
    (∀ i, Real' (x1 i)) ∧ (∀ i, Real' (x2 i)) ∧ (∀ i, Real' (x3 i)) := by
  have h0 := congrFun h ix0
  unfold fn at h0
  obtain ⟨h0, h3⟩ := IntOp.andi_eq_one.1 h0
  obtain ⟨h0, h2⟩ := IntOp.andi_eq_one.1 h0
  exact ⟨fun i => real_of_lt _ (Host.reduce_andi_all _ _ _ _ _ h0 i), fun i => real_of_lt _ (Host.reduce_andi_all _ _ _ _ _ h2 i), fun i => real_of_lt _ (Host.reduce_andi_all _ _ _ _ _ h3 i)⟩

end Cert.Pre_finite

end
-- ==== Proof.lean ====
module

public import proofs.«01_k».proof.Defs
public import proofs.«01_k».proof.Proof.Gen.Kernel.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Final
public import proofs.«01_k».proof.Proof.Ref
public import proofs.«01_k».proof.Proof.Final2
public import proofs.«01_k».proof.Proof.Ref2
public import proofs.«01_k».proof.Proof.Final3
public import proofs.«01_k».proof.Proof.Ref3
public import proofs.«01_k».proof.Proof.Finite
public import Idealize.ShloMosaic.Lib.Claim

@[expose] public section

set_option maxRecDepth 16384
noncomputable section

/-! The claims. -/

namespace Cert.Proof

open Idealize.ShloMosaic Idealize.SL.Sem

theorem frame_ref : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

section
open Cert.ReferenceIdeal Cert.ReferenceIdeal.Gen

/-- The reference's run, its result named. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v106) = Cert.KernelIdeal.Mlp.whole (m ((c.tc : Thread nD τ).loc main_arg0))
        (Cert.KernelIdeal.Mlp.par (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Cert.ReferenceIdeal.Read.val_main_v106_eq (StableHlo.launchContents m c)).trans
      (Cert.ReferenceIdeal.Mlp.h106 _ _ _ _ _ _ _ _ _ _)), (h c).2⟩) (Cert.ReferenceIdeal.Value.run m g)

end

theorem preserved : Cert.preserves_Kernel_KernelIdeal :=
  ⟨IdealRules.named_const.statement Cert.KernelIdeal.κ "gelu_b" .f32 0xBDD2D3E8#32 _ rfl,
    IdealRules.named_const.statement Cert.KernelIdeal.κ "gelu_a" .f32 0xC0135761#32 _ rfl,
    IdealRules.named_const.statement Cert.KernelIdeal.κ "neg_log2e" .f32 0xBFB8AA3B#32 _ rfl⟩

set_option maxHeartbeats 1600000 in
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from run_ref m' g'
    exact (Cert.KernelIdeal.Mlp.final m c).symm

theorem frame_ref2 : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

section
open Cert.Reference2Ideal Cert.Reference2Ideal.Gen

/-- The first layer's reference's run, its result named. -/
theorem run_ref2 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v93) = Cert.Kernel2Ideal.Mlp.whole (m ((c.tc : Thread nD τ).loc main_arg0))
        (Cert.KernelIdeal.Mlp.par (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Cert.Reference2Ideal.Read.val_main_v93_eq m c).trans
      (Cert.Reference2Ideal.Mlp.h93 _ _ _ _ _ _ _ _ _ _)), (h c).2⟩) (Cert.Reference2Ideal.Value.run m g)

end

theorem preserved2 : Cert.preserves_Kernel2_Kernel2Ideal :=
  ⟨IdealRules.named_const.statement Cert.Kernel2Ideal.κ "gelu_b" .f32 0xBDD2D3E8#32 _ rfl,
    IdealRules.named_const.statement Cert.Kernel2Ideal.κ "gelu_a" .f32 0xC0135761#32 _ rfl,
    IdealRules.named_const.statement Cert.Kernel2Ideal.κ "neg_log2e" .f32 0xBFB8AA3B#32 _ rfl⟩

set_option maxHeartbeats 1600000 in
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Run.run_all m g
  · run_from run_ref2 m' g'
    exact (Cert.Kernel2Ideal.Mlp.final m c).symm

theorem frame_ref3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run m g)

theorem frame_ref3_pre : Cert.quiescent_Reference3Ideal_pre_finite (hReference3Ideal := Cert.Reference3Ideal.Gen.facts)
    (hPre_finite := Cert.Pre_finite.Gen.facts) :=
  fun m g _ => frame_ref3 m g trivial

section
open Cert.Reference3Ideal Cert.Reference3Ideal.Gen

/-- The pooling reference's run from real parameters, its result named. -/
theorem run_ref3 (m : (ℓ : Loc nD τ sig) → Buf (Elt Ideal) ℓ) (g : Dev nD → PrngReg)
    (H : ∀ c : Dev nD, Cert.Reference3Ideal.Pool.Reals (m ((c.tc : Thread nD τ).loc main_arg1))
      (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v172) = Cert.Kernel3Ideal.Pool.whole (m ((c.tc : Thread nD τ).loc main_arg0))
        (Cert.Kernel3Ideal.Pool.par (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((Cert.Reference3Ideal.Read.val_main_v172_eq (StableHlo.launchContents m c)).trans
      (Cert.Reference3Ideal.Pool.h172 _ _ _ _ _ _ _ (H c))), (h c).2⟩) (Cert.Reference3Ideal.Value.run m g)

end

set_option maxHeartbeats 1600000 in
theorem algebraic3 : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := by
  pair_intro
  · run_from Cert.Kernel3Ideal.Gen.run_main m g
  · have H : ∀ c : Dev Cert.Reference3Ideal.nD, Cert.Reference3Ideal.Pool.Reals
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3)) := by
      intro c
      obtain ⟨_, a1, a2, a3, _⟩ := hagree c
      obtain ⟨h1, h2, h3⟩ := Cert.Pre_finite.reals _ _ _ _ _ _ _ (hpre c)
      exact ⟨by rw [a1]; exact h1, by rw [a2]; exact h2, by rw [a3]; exact h3⟩
    run_from run_ref3 m' g' H
    exact (Cert.Kernel3Ideal.Pool.final m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts,
    fun m g _ => Cert.Kernel.Gen.frame m g, fun m g _ => Cert.KernelIdeal.Gen.frame m g, frame_ref,
    fun m g _ => Cert.Kernel2.Gen.frame m g, fun m g _ => Cert.Kernel2Ideal.Gen.frame m g, frame_ref2,
    fun m g _ => Cert.Kernel3.Gen.frame m g, fun m g _ => Cert.Kernel3Ideal.Gen.frame m g, fun m g _ => Cert.Kernel3Ideal.Gen.frame m g,
    frame_ref3, frame_ref3_pre, preserved, algebraic, preserved2, algebraic2, trivial, algebraic3⟩

end Cert.Proof

end
